-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S4 : Shape := ⟨1, ![4]⟩
abbrev S_ : Shape := ⟨0, ![]⟩
abbrev S1x4 : Shape := ⟨2, ![1, 4]⟩
abbrev S2x4 : Shape := ⟨2, ![2, 4]⟩
abbrev S1024x8192 : Shape := ⟨2, ![1024, 8192]⟩
abbrev S1024x1024 : Shape := ⟨2, ![1024, 1024]⟩
abbrev S1x1 : Shape := ⟨2, ![1, 1]⟩
abbrev S3x1024x1024 : Shape := ⟨3, ![3, 1024, 1024]⟩
abbrev S3 : Shape := ⟨1, ![3]⟩
abbrev S1x1024x1024 : Shape := ⟨3, ![1, 1024, 1024]⟩
abbrev S1 : Shape := ⟨1, ![1]⟩

abbrev nBuf : Space → Nat
  | .hbm => 37
  | .vmem => 8
  | .smem => 1
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4, .i32⟩
  | .hbm, ⟨3, _⟩ => ⟨S4, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S_, .i1⟩
  | .hbm, ⟨28, _⟩ => ⟨S4, .i1⟩
  | .hbm, ⟨29, _⟩ => ⟨S4, .i1⟩
  | .hbm, ⟨30, _⟩ => ⟨S4, .i1⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S1x4, .i32⟩
  | .hbm, ⟨35, _⟩ => ⟨S1x4, .i32⟩
  | .hbm, ⟨36, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x8192, .f32⟩
  | .local _ .vmem, ⟨5, _⟩ => ⟨S3x1024x1024, .bf16⟩
  | .local _ .vmem, ⟨6, _⟩ => ⟨S1024x1024, .f32⟩
  | .local _ .vmem, ⟨7, _⟩ => ⟨S3x1024x1024, .bf16⟩
  | .local _ .smem, ⟨0, _⟩ => ⟨S2x4, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_3 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v11 : Ref sig .tc := ⟨.hbm, 36, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v1 : Index := Scalar.indexCast arg0
  ![1, v1.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def k0_dev1 (v0 : BitVec 32) : Nat :=
  let c0_i32_28 : BitVec 32 := 0#32
  let c1_i32_20 : BitVec 32 := 1#32
  let v40 : BitVec 32 := Scalar.addi v0 c1_i32_20
  let c4_i32 : BitVec 32 := 4#32
  let c0_i32_21 : BitVec 32 := 0#32
  let v41 : BitVec 1 := Scalar.cmpi .eq c4_i32 c0_i32_21
  let c1_i32_22 : BitVec 32 := 1#32
  let v42 : BitVec 32 := Scalar.select v41 c1_i32_22 c4_i32
  let v43 : BitVec 32 := Scalar.remsi v40 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let c1_i32_27 : BitVec 32 := 1#32
  let v51 : BitVec 32 := Scalar.muli v50 c1_i32_27
  let v52 : BitVec 32 := Scalar.addi c0_i32_28 v51
  v52.toNat

def k0_dev2 (v0 : BitVec 32) : Nat :=
  let c0_i32_37 : BitVec 32 := 0#32
  let c2_i32 : BitVec 32 := 2#32
  let v53 : BitVec 32 := Scalar.addi v0 c2_i32
  let c4_i32_29 : BitVec 32 := 4#32
  let c0_i32_30 : BitVec 32 := 0#32
  let v54 : BitVec 1 := Scalar.cmpi .eq c4_i32_29 c0_i32_30
  let c1_i32_31 : BitVec 32 := 1#32
  let v55 : BitVec 32 := Scalar.select v54 c1_i32_31 c4_i32_29
  let v56 : BitVec 32 := Scalar.remsi v53 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  let c1_i32_36 : BitVec 32 := 1#32
  let v64 : BitVec 32 := Scalar.muli v63 c1_i32_36
  let v65 : BitVec 32 := Scalar.addi c0_i32_37 v64
  v65.toNat
def k0_dev3 (v0 : BitVec 32) : Nat :=
  let c0_i32_47 : BitVec 32 := 0#32
  let c3_i32_38 : BitVec 32 := 3#32
  let v66 : BitVec 32 := Scalar.addi v0 c3_i32_38
  let c4_i32_39 : BitVec 32 := 4#32
  let c0_i32_40 : BitVec 32 := 0#32
  let v67 : BitVec 1 := Scalar.cmpi .eq c4_i32_39 c0_i32_40
  let c1_i32_41 : BitVec 32 := 1#32
  let v68 : BitVec 32 := Scalar.select v67 c1_i32_41 c4_i32_39
  let v69 : BitVec 32 := Scalar.remsi v66 v68
  let c0_i32_43 : BitVec 32 := 0#32
  let v71 : BitVec 1 := Scalar.cmpi .slt v69 c0_i32_43
  let c0_i32_44 : BitVec 32 := 0#32
  let v72 : BitVec 1 := Scalar.cmpi .slt v68 c0_i32_44
  let v73 : BitVec 1 := Scalar.xori v71 v72
  let c0_i32_42 : BitVec 32 := 0#32
  let v70 : BitVec 1 := Scalar.cmpi .ne v69 c0_i32_42
  let v74 : BitVec 1 := Scalar.andi v73 v70
  let v75 : BitVec 32 := Scalar.addi v69 v68
  let v76 : BitVec 32 := Scalar.select v74 v75 v69
  let c1_i32_46 : BitVec 32 := 1#32
  let v77 : BitVec 32 := Scalar.muli v76 c1_i32_46
  let v78 : BitVec 32 := Scalar.addi c0_i32_47 v77
  v78.toNat
def k0_off3 (v0 : BitVec 32) (c1_i32_49 : BitVec 32) : Fin 2 → Nat :=
  let v79 : BitVec 32 := Scalar.addi v0 c1_i32_49
  let c4_i32_50 : BitVec 32 := 4#32
  let c0_i32_51 : BitVec 32 := 0#32
  let v80 : BitVec 1 := Scalar.cmpi .eq c4_i32_50 c0_i32_51
  let c1_i32_52 : BitVec 32 := 1#32
  let v81 : BitVec 32 := Scalar.select v80 c1_i32_52 c4_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1024_i32_56 : BitVec 32 := 1024#32
  let v90 : BitVec 32 := Scalar.muli v89 c1024_i32_56
  let c0_i32_57 : BitVec 32 := 0#32
  ![v90.toNat, 0]
def k0_dev4 (v0 : BitVec 32) : Nat :=
  let c0_i32_69 : BitVec 32 := 0#32
  let c1_i32_49 : BitVec 32 := 1#32
  let v79 : BitVec 32 := Scalar.addi v0 c1_i32_49
  let c4_i32_50 : BitVec 32 := 4#32
  let c0_i32_51 : BitVec 32 := 0#32
  let v80 : BitVec 1 := Scalar.cmpi .eq c4_i32_50 c0_i32_51
  let c1_i32_52 : BitVec 32 := 1#32
  let v81 : BitVec 32 := Scalar.select v80 c1_i32_52 c4_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1_i32_68 : BitVec 32 := 1#32
  let v98 : BitVec 32 := Scalar.muli v89 c1_i32_68
  let v99 : BitVec 32 := Scalar.addi c0_i32_69 v98
  v99.toNat
def k0_dev5 (v0 : BitVec 32) : Nat :=
  let c0_i32_93 : BitVec 32 := 0#32
  let c3_i32_74 : BitVec 32 := 3#32
  let v108 : BitVec 32 := Scalar.addi v0 c3_i32_74
  let c4_i32_75 : BitVec 32 := 4#32
  let c0_i32_76 : BitVec 32 := 0#32
  let v109 : BitVec 1 := Scalar.cmpi .eq c4_i32_75 c0_i32_76
  let c1_i32_77 : BitVec 32 := 1#32
  let v110 : BitVec 32 := Scalar.select v109 c1_i32_77 c4_i32_75
  let v111 : BitVec 32 := Scalar.remsi v108 v110
  let c0_i32_79 : BitVec 32 := 0#32
  let v113 : BitVec 1 := Scalar.cmpi .slt v111 c0_i32_79
  let c0_i32_80 : BitVec 32 := 0#32
  let v114 : BitVec 1 := Scalar.cmpi .slt v110 c0_i32_80
  let v115 : BitVec 1 := Scalar.xori v113 v114
  let c0_i32_78 : BitVec 32 := 0#32
  let v112 : BitVec 1 := Scalar.cmpi .ne v111 c0_i32_78
  let v116 : BitVec 1 := Scalar.andi v115 v112
  let v117 : BitVec 32 := Scalar.addi v111 v110
  let v118 : BitVec 32 := Scalar.select v116 v117 v111
  let c1_i32_92 : BitVec 32 := 1#32
  let v127 : BitVec 32 := Scalar.muli v118 c1_i32_92
  let v128 : BitVec 32 := Scalar.addi c0_i32_93 v127
  v128.toNat
def k0_off4 (v0 : BitVec 32) : Fin 2 → Nat :=
  let c1024_i32_98 : BitVec 32 := 1024#32
  let v137 : BitVec 32 := Scalar.muli v0 c1024_i32_98
  let c0_i32_99 : BitVec 32 := 0#32
  ![v137.toNat, 0]
def k0_cond2 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_off5 (v0 : BitVec 32) : Fin 2 → Nat :=
  let c2_i32 : BitVec 32 := 2#32
  let v39 : BitVec 32 := Scalar.addi v0 c2_i32
  let c4_i32 : BitVec 32 := 4#32
  let c0_i32_20 : BitVec 32 := 0#32
  let v40 : BitVec 1 := Scalar.cmpi .eq c4_i32 c0_i32_20
  let c1_i32_21 : BitVec 32 := 1#32
  let v41 : BitVec 32 := Scalar.select v40 c1_i32_21 c4_i32
  let v42 : BitVec 32 := Scalar.remsi v39 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let c1024_i32_25 : BitVec 32 := 1024#32
  let v50 : BitVec 32 := Scalar.muli v49 c1024_i32_25
  let c0_i32_26 : BitVec 32 := 0#32
  ![v50.toNat, 0]
def k0_dev6 (v0 : BitVec 32) : Nat :=
  let c0_i32_38 : BitVec 32 := 0#32
  let c2_i32 : BitVec 32 := 2#32
  let v39 : BitVec 32 := Scalar.addi v0 c2_i32
  let c4_i32 : BitVec 32 := 4#32
  let c0_i32_20 : BitVec 32 := 0#32
  let v40 : BitVec 1 := Scalar.cmpi .eq c4_i32 c0_i32_20
  let c1_i32_21 : BitVec 32 := 1#32
  let v41 : BitVec 32 := Scalar.select v40 c1_i32_21 c4_i32
  let v42 : BitVec 32 := Scalar.remsi v39 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let c1_i32_37 : BitVec 32 := 1#32
  let v58 : BitVec 32 := Scalar.muli v49 c1_i32_37
  let v59 : BitVec 32 := Scalar.addi c0_i32_38 v58
  v59.toNat

def k0_chk1 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), ∀ (r : Fin 2), ∀ a, (k0_off3 v0 (BitVec.ofNat 32 (1 + 2 * r.val))) a + S1024x1024.size a ≤ S4096x1024.size a) ∧
  (∀ (k0_h1 : k0_cond1 i = 1#1), (k0_dev4 v0) < nD) ∧
  (∀ (k0_h1 : k0_cond1 i = 1#1), (k0_dev5 v0) < nD) ∧
  (∀ (k0_h1 : k0_cond1 i = 1#1), ∀ a, (k0_off4 v0) a + S1024x1024.size a ≤ S4096x1024.size a) ∧
  (∀ (k0_h2 : k0_cond2 i = 1#1), ∀ a, (k0_off5 v0) a + S1024x1024.size a ≤ S4096x1024.size a) ∧
  (∀ (k0_h2 : k0_cond2 i = 1#1), (k0_dev6 v0) < nD)
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.1 k0_h1
theorem k0_off3_inb : ∀ (i : grid0.Coords) (v0 : BitVec 32) (k0_hw1 : k0_chk1 i v0), ∀ (k0_h1 : k0_cond1 i = 1#1), ∀ (r : Fin 2), ∀ a, (k0_off3 v0 (BitVec.ofNat 32 (1 + 2 * r.val))) a + S1024x1024.size a ≤ S4096x1024.size a := fun i v0 k0_hw1 k0_h1 r => k0_hw1.2.2.2.1 k0_h1 r
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.2.1 k0_h1
theorem k0_off4_inb : ∀ (i : grid0.Coords) (v0 : BitVec 32) (k0_hw1 : k0_chk1 i v0), ∀ (k0_h1 : k0_cond1 i = 1#1), ∀ a, (k0_off4 v0) a + S1024x1024.size a ≤ S4096x1024.size a := fun i v0 k0_hw1 k0_h1 => k0_hw1.2.2.2.2.2.2.1 k0_h1
theorem k0_off5_inb : ∀ (i : grid0.Coords) (v0 : BitVec 32) (k0_hw1 : k0_chk1 i v0), ∀ (k0_h2 : k0_cond2 i = 1#1), ∀ a, (k0_off5 v0) a + S1024x1024.size a ≤ S4096x1024.size a := fun i v0 k0_hw1 k0_h2 => k0_hw1.2.2.2.2.2.2.2.1 k0_h2
theorem k0_dev6_lt : ∀ (i : grid0.Coords) (v0 : BitVec 32) (k0_hw1 : k0_chk1 i v0), ∀ (k0_h2 : k0_cond2 i = 1#1), (k0_dev6 v0) < nD := fun i v0 k0_hw1 k0_h2 => k0_hw1.2.2.2.2.2.2.2.2 k0_h2

def k0_cond3 (i : grid0.Coords) : BitVec 1 :=
  let arg0 : BitVec 32 := BitVec.ofNat 32 (i 0).val
  let c0_i32_5 : BitVec 32 := 0#32
  let v13 : BitVec 1 := Scalar.cmpi .sgt arg0 c0_i32_5
  let arg1 : BitVec 32 := BitVec.ofNat 32 (i 1).val
  let c0_i32_6 : BitVec 32 := 0#32
  let v14 : BitVec 1 := Scalar.cmpi .eq arg1 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_off6 (v2 : BitVec 32) : Fin 1 → Nat :=
  ![v2.toNat]

def k0_off7 (v2 : BitVec 32) : Fin 3 → Nat :=
  let c0_i32_24 : BitVec 32 := 0#32
  let c0_i32_25 : BitVec 32 := 0#32
  ![v2.toNat, 0, 0]
def k0_off8 (v2 : BitVec 32) : Fin 3 → Nat :=
  let v47 : Index := Scalar.indexCast v2
  let c0_28 : Index := 0#32
  let c0_29 : Index := 0#32
  ![v47.toNat, 0, 0]

def k0_chk2 (i : grid0.Coords) (v2 : BitVec 32) : Prop :=
  (∀ (k0_h3 : k0_cond3 i = 1#1), ∀ a, (k0_off6 v2) a + S1.size a ≤ S3.size a) ∧
  (∀ (k0_h3 : k0_cond3 i = 1#1), ∀ a, (k0_off7 v2) a + S1x1024x1024.size a ≤ S3x1024x1024.size a) ∧
  (∀ (k0_h3 : k0_cond3 i = 1#1), ∀ (hinb : ∀ a, (k0_off7 v2) a + S1x1024x1024.size a ≤ S3x1024x1024.size a), (Rect.unit (s := S3x1024x1024) (k0_off7 v2) S1x1024x1024.size hinb).WholeWords (EltTy.packing .bf16)) ∧
  (∀ (k0_h3 : k0_cond3 i = 1#1), ∀ a, (k0_off8 v2) a + S1x1024x1024.size a ≤ S3x1024x1024.size a)
theorem k0_off6_inb : ∀ (i : grid0.Coords) (v2 : BitVec 32) (k0_hw2 : k0_chk2 i v2), ∀ (k0_h3 : k0_cond3 i = 1#1), ∀ a, (k0_off6 v2) a + S1.size a ≤ S3.size a := fun i v2 k0_hw2 k0_h3 => k0_hw2.1 k0_h3
theorem k0_off7_inb : ∀ (i : grid0.Coords) (v2 : BitVec 32) (k0_hw2 : k0_chk2 i v2), ∀ (k0_h3 : k0_cond3 i = 1#1), ∀ a, (k0_off7 v2) a + S1x1024x1024.size a ≤ S3x1024x1024.size a := fun i v2 k0_hw2 k0_h3 => k0_hw2.2.1 k0_h3
theorem k0_off7_wordsbf16 : ∀ (i : grid0.Coords) (v2 : BitVec 32) (k0_hw2 : k0_chk2 i v2), ∀ (k0_h3 : k0_cond3 i = 1#1), (Rect.unit (s := S3x1024x1024) (k0_off7 v2) S1x1024x1024.size (k0_off7_inb i v2 k0_hw2 k0_h3)).WholeWords (EltTy.packing .bf16) := fun i v2 k0_hw2 k0_h3 => k0_hw2.2.2.1 k0_h3 (k0_off7_inb i v2 k0_hw2 k0_h3)
theorem k0_off8_inb : ∀ (i : grid0.Coords) (v2 : BitVec 32) (k0_hw2 : k0_chk2 i v2), ∀ (k0_h3 : k0_cond3 i = 1#1), ∀ a, (k0_off8 v2) a + S1x1024x1024.size a ≤ S3x1024x1024.size a := fun i v2 k0_hw2 k0_h3 => k0_hw2.2.2.2 k0_h3

def k0_cond4 (i : grid0.Coords) : BitVec 1 :=
  let arg0 : BitVec 32 := BitVec.ofNat 32 (i 0).val
  let c0_i32_12 : BitVec 32 := 0#32
  let v23 : BitVec 1 := Scalar.cmpi .eq arg0 c0_i32_12
  let v24 : BitVec 32 := Scalar.extui v23
  let c0_i32_13 : BitVec 32 := 0#32
  let v25 : BitVec 1 := Scalar.cmpi .ne v24 c0_i32_13
  v25

def k0_off9 (i : grid0.Coords) : Fin 2 → Nat :=
  let c0_20 : Index := 0#32
  let arg1 : BitVec 32 := BitVec.ofNat 32 (i 1).val
  let c1024_i32 : BitVec 32 := 1024#32
  let v18 : BitVec 32 := Scalar.muli arg1 c1024_i32
  let v39 : Index := Scalar.indexCast v18
  ![0, v39.toNat]
def k0_cond5 (i : grid0.Coords) : BitVec 1 :=
  let arg0 : BitVec 32 := BitVec.ofNat 32 (i 0).val
  let c0_i32_14 : BitVec 32 := 0#32
  let v26 : BitVec 1 := Scalar.cmpi .sgt arg0 c0_i32_14
  let c3_i32 : BitVec 32 := 3#32
  let v27 : BitVec 1 := Scalar.cmpi .slt arg0 c3_i32
  let v28 : BitVec 1 := Scalar.andi v26 v27
  let v29 : BitVec 32 := Scalar.extui v28
  let c0_i32_15 : BitVec 32 := 0#32
  let v30 : BitVec 1 := Scalar.cmpi .ne v29 c0_i32_15
  v30

def k0_off10 (i : grid0.Coords) : Fin 2 → Nat :=
  let c0_20 : Index := 0#32
  let arg1 : BitVec 32 := BitVec.ofNat 32 (i 1).val
  let c1024_i32 : BitVec 32 := 1024#32
  let v18 : BitVec 32 := Scalar.muli arg1 c1024_i32
  let v39 : Index := Scalar.indexCast v18
  ![0, v39.toNat]
def k0_cond6 (i : grid0.Coords) : BitVec 1 :=
  let arg0 : BitVec 32 := BitVec.ofNat 32 (i 0).val
  let c3_i32_16 : BitVec 32 := 3#32
  let v31 : BitVec 1 := Scalar.cmpi .eq arg0 c3_i32_16
  let v32 : BitVec 32 := Scalar.extui v31
  let c0_i32_17 : BitVec 32 := 0#32
  let v33 : BitVec 1 := Scalar.cmpi .ne v32 c0_i32_17
  v33

def k0_off11 (i : grid0.Coords) : Fin 2 → Nat :=
  let c0_20 : Index := 0#32
  let arg1 : BitVec 32 := BitVec.ofNat 32 (i 1).val
  let c1024_i32 : BitVec 32 := 1024#32
  let v18 : BitVec 32 := Scalar.muli arg1 c1024_i32
  let v39 : Index := Scalar.indexCast v18
  ![0, v39.toNat]
def cc0_transform_1 (k0_off1_inb : ∀ i : grid0.Coords, ∀ a, (k0_off1 i) a + S1x1.size a ≤ S2x4.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg0
  let v1 : BitVec 32 := pf.at 0 (Rect.unit (s := S2x4) ![0, v0.toNat] S1x1.size (k0_off1_inb i)) numel1_S1x1
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel.Regions
public import proofs.«01_k».proof.Proof.Gen.KernelIdeal.Regions

@[expose] public section

noncomputable section

namespace Cert.A2A

open Idealize.ShloMosaic Idealize.SL.Sem
open Cert.KernelIdeal (nD τ sig Λ₀ pcfgs)

/-! ## The two kernels have one text -/

/-- The label signature that the entry of the pipeline is called under. -/
abbrev ΛP : Labels := Pipeline.Sig Λ₀ (Fin 1) fun p => (pcfgs (F := Bits) p).Adm

/-- The two programs' kernel bodies are the same. -/
theorem same_body (p : Proc τ) (ℓ : Λ₀.Label) (a : Λ₀.Args ℓ) :
    Cert.Kernel.defs₀ (F := Bits) p ℓ a = Cert.KernelIdeal.defs₀ (F := Bits) p ℓ a := by
  cases p with
  | tc =>
    rcases ℓ with ⟨_ | n, h⟩
    · rcases a with ⟨t, s⟩
      rfl
    · exact absurd h (by omega)
  | scScalar _ => rfl
  | scVector _ _ => rfl

/-- The two kernels' body tables, before the pipeline's labels are added. -/
theorem same_defs₀ : Cert.Kernel.defs₀ (F := Bits) = (Cert.KernelIdeal.defs₀ (F := Bits) : Defs nD τ sig (Elt Bits) Λ₀) :=
  funext fun p => funext fun ℓ => funext fun a => same_body p ℓ a

/-- The two kernels' body tables. -/
theorem same_defs : Cert.Kernel.defs (F := Bits) = (Cert.KernelIdeal.defs (F := Bits) : Defs nD τ sig (Elt Bits) ΛP) :=
  congrArg (Pipeline.defs (pcfgs (F := Bits))) same_defs₀

/-- The two programs' first host operations are the same. -/
theorem same_host0 (c : Dev nD) : Cert.Kernel.Gen.hostOps0 (F := Bits) c = Cert.KernelIdeal.Gen.hostOps0 (F := Bits) c := rfl
/-- The two programs' second host operations are the same. -/
theorem same_host1 : Cert.Kernel.Gen.hostOps0_1 (F := Bits) = Cert.KernelIdeal.Gen.hostOps0_1 (F := Bits) := rfl
/-- The two programs' third host operations are the same. -/
theorem same_host2 : Cert.Kernel.Gen.hostOps0_2 (F := Bits) = Cert.KernelIdeal.Gen.hostOps0_2 (F := Bits) := rfl

/-- The host's three stretches and the call, as one program. -/
abbrev chainOf (a b d : List (HloOp τ sig (Elt Bits))) : Prog (TpuEff nD τ sig (Elt Bits) ΛP .tc) PUnit :=
  Pipeline.chain [StableHlo.seq a, StableHlo.seq b, StableHlo.seq d, Prog.lift (.customCall (Pipeline.entry 0) ())]

/-- The kernel's main program, as the chain of its parts. -/
theorem main_kernel (c : Dev nD) : Cert.Kernel.main (F := Bits) c
    = chainOf (Cert.Kernel.Gen.hostOps0 (F := Bits) c) (Cert.Kernel.Gen.hostOps0_1 (F := Bits)) (Cert.Kernel.Gen.hostOps0_2 (F := Bits)) :=
  Cert.Kernel.Gen.main_chain c

/-- The two kernels' programs. -/
theorem same_main : Cert.Kernel.main (F := Bits) = (Cert.KernelIdeal.main (F := Bits) : Dev nD → Prog (TpuEff nD τ sig (Elt Bits) ΛP .tc) PUnit) := by
  funext c
  refine (main_kernel c).trans ?_
  rw [same_host0 c, same_host1, same_host2]
  exact (Cert.KernelIdeal.Gen.main_chain c).symm

/-- What the ideal text does over the bit patterns the kernel does. -/
theorem to_kernel (s : MemSt nD τ sig (Elt Bits)) (Q : PUnit × MemSt nD τ sig (Elt Bits) → Prop)
    (h : θ_run (Cert.KernelIdeal.defs (F := Bits)) (onTc (τ := τ) (Cert.KernelIdeal.main (F := Bits))) s Q) :
    θ_run (Cert.Kernel.defs (F := Bits) : Defs nD τ sig (Elt Bits) ΛP)
      (onTc (τ := τ) (Cert.Kernel.main (F := Bits) : Dev nD → Prog (TpuEff nD τ sig (Elt Bits) ΛP .tc) PUnit)) s Q := by
  rw [same_defs, same_main]; exact h

end Cert.A2A
end
-- ==== Proof.Table.lean ====
module

public import proofs.«01_k».proof.Proof.Gen.KernelIdeal.Regions
public import Idealize.ShloMosaic.Lib.ValueIdx

@[expose] public section

noncomputable section

namespace Cert.A2A

open Idealize.ShloMosaic Idealize.ShloMosaic.TcCoe
open Cert.KernelIdeal

variable {F : FTy → Type} [FloatOps F]

/-- The device whose rows device `c` multiplies in phase `p`: itself, then the devices 1, 3 and 2 further on. -/
def srcVal (c p : ℕ) : ℕ := (c + ([0, 1, 3, 2] : List ℕ).getD p 0) % 4

/-- The slot of the receive buffer that phase `p` reads (none in phase 0, where the table holds 0). -/
def slotVal (p : ℕ) : ℕ := ([0, 0, 2, 1] : List ℕ).getD p 0

/-- The prefetched table of device `c`: row 0 the devices in the order visited, row 1 the slots. -/
def tbl (c : Dev nD) : IVec S2x4 32 := fun i =>
  if (i 0).val = 0 then BitVec.ofNat 32 (srcVal c.val (i 1).val) else BitVec.ofNat 32 (slotVal (i 1).val)

variable (m : (ℓ : Loc nD τ sig) → Buf (Elt F) ℓ)

/-- Four in every lane. -/
abbrev fours : IVec S_ 32 := select (cmpi CmpIPredicate.eq (constantI S_ 32 4#32) (constantI S_ 32 0#32)) (constantI S_ 32 1#32) (constantI S_ 32 4#32)

/-- The remainder by four of the device number plus the offsets, as the host takes it. -/
abbrev hostRem (c : Dev nD) : IVec S4 32 :=
  Host.remsi
    (addi (broadcastInDim S4 ![] Gen.bcast_S_S4 (Host.remui (Host.divui (constantI S_ 32 (Dev.word c)) (constantI S_ 32 1#32)) (constantI S_ 32 4#32)))
      fun i => lit0 (S4.rowMajor i))
    (broadcastInDim S4 ![] Gen.bcast_S_S4 fours)

/-- Row 0 of the table as the host computes it. -/
abbrev hostRow (c : Dev nD) : IVec S4 32 :=
  select
    (andi
      (cmpi CmpIPredicate.ne (cmpi CmpIPredicate.slt (hostRem c) (broadcastInDim S4 ![] Gen.bcast_S_S4 (constantI S_ 32 0#32)))
        (broadcastInDim S4 ![] Gen.bcast_S_S4 (cmpi CmpIPredicate.slt fours (constantI S_ 32 0#32))))
      (cmpi CmpIPredicate.ne (hostRem c) (broadcastInDim S4 ![] Gen.bcast_S_S4 (constantI S_ 32 0#32))))
    (addi (hostRem c) (broadcastInDim S4 ![] Gen.bcast_S_S4 fours))
    (hostRem c)

/-- The remainders that the host computes are the source devices of the phases. -/
theorem hostRem_apply (c : Dev nD) (i : S4.Idx) : hostRem c i = BitVec.ofNat 32 (srcVal c.val (i 0).val) := by
  have h : ∀ (c : Dev nD) (q : Fin 4), hostRem c (ValueIdx.ix1 q) = BitVec.ofNat 32 (srcVal c.val q.val) := by decide
  have hi : i = ValueIdx.ix1 (i 0) := by funext a; fin_cases a; rfl
  rw [hi]; exact h c (i 0)

/-- The table's first row holds the source devices of the phases. -/
theorem hostRow_apply (c : Dev nD) (i : S4.Idx) : hostRow c i = BitVec.ofNat 32 (srcVal c.val (i 0).val) := by
  have h : ∀ (c : Dev nD) (q : Fin 4), hostRow c (ValueIdx.ix1 q) = BitVec.ofNat 32 (srcVal c.val q.val) := by decide
  have hi : i = ValueIdx.ix1 (i 0) := by funext a; fin_cases a; rfl
  rw [hi]; exact h c (i 0)

/-- The host operations leave in the table's buffer exactly the table. -/
theorem V3_v10 (c : Dev nD) : Gen.V3 m c main_v10 = tbl c := by
  unfold Gen.V3 Gen.V2 Gen.V1 Gen.hostOps0 Gen.hostOps0_1 Gen.hostOps0_2
  after_results
  simp only [StableHlo.TRef.toBuf, StableHlo.TRef.ofBuf, cast_cast, cast_eq, id]
  change concatenate S2x4 0 [⟨S1x4, broadcastInDim S1x4 ![1] Gen.bcast_S4_S1x4_1 (hostRow c)⟩,
    ⟨S1x4, broadcastInDim S1x4 ![1] Gen.bcast_S4_S1x4_1 fun i => lit1 (S4.rowMajor i)⟩] Gen.concatenates_S1x4_S1x4_S2x4_d0 = _
  funext i
  obtain ⟨r, q, rfl⟩ : ∃ (r : Fin 2) (q : Fin 4), i = ValueIdx.ix2 r q := ⟨i 0, i 1, by funext a; fin_cases a <;> rfl⟩
  have h0 : hostRow c = fun i => BitVec.ofNat 32 (srcVal c.val (i 0).val) := funext (hostRow_apply c)
  rw [h0]
  fin_cases r <;> fin_cases q <;> rfl

end Cert.A2A
end
-- ==== Proof.Setup.lean ====
module

public import proofs.«01_k».proof.Proof.Table
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

/-! ## Devices, words, buffers, semaphores -/

set_option backward.proofsInPublic true in
/-- The device `n` further on around the mesh. -/
def sh (c : Dev nD) (n : ℕ) : Dev nD := ⟨(c.val + n) % 4, Nat.mod_lt _ (by decide)⟩

/-- The device's number as the word the kernel reads. -/
abbrev wrd (c : Dev nD) : BitVec 32 := BitVec.ofNat 32 c.val

abbrev xM : Memref sig .tc .hbm S4096x1024 .f32 := Memref.whole main_arg0
abbrev tM : Memref sig .tc .smem S2x4 .i32 := Memref.whole main_v10
abbrev accM : Memref sig .tc .vmem S1024x8192 .f32 := Memref.whole cc0_scratch0
abbrev commM : Memref sig .tc .vmem S3x1024x1024 .bf16 := Memref.whole cc0_scratch1
abbrev chM : Memref sig .tc .vmem S1024x1024 .f32 := Memref.whole cc0_scratch2
abbrev sendM : Memref sig .tc .vmem S3x1024x1024 .bf16 := Memref.whole cc0_scratch3

/-- Slot `s` lies inside a buffer of three slots. -/
theorem inb3 (s : Fin 3) : ∀ a, (![s.val, 0, 0] : Fin 3 → Nat) a + S1x1024x1024.size a ≤ S3x1024x1024.size a := by
  revert s; decide

/-- The rectangle of slot `s` of a three-slot buffer. -/
abbrev rs (s : Fin 3) : Rect S3x1024x1024 := Rect.unit (s := S3x1024x1024) ![s.val, 0, 0] S1x1024x1024.size (inb3 s)

/-- Slot `s` of a three-slot buffer, as a matrix. -/
abbrev slot3 (b : Memref sig .tc .vmem S3x1024x1024 .bf16) (s : Fin 3) : Memref sig .tc .vmem S1024x1024 .bf16 :=
  (b.slice (rs s) (fun _ => rfl)).squeeze S1024x1024 Gen.squeezes_S1x1024x1024_S1024x1024

/-- Slot `s` of the receive buffer, slot `s` of the send buffer. -/
abbrev cs (s : Fin 3) : Memref sig .tc .vmem S1024x1024 .bf16 := slot3 commM s
abbrev ss (s : Fin 3) : Memref sig .tc .vmem S1024x1024 .bf16 := slot3 sendM s

/-- The semaphores: the barrier's, the sends', the receives', the local copies'. -/
abbrev barS : Sem sig := (SemArray.scalar (sig.barrier 0 rfl) : Sems sig S_).sem
def sendS : Fin 3 → DmaSem sig := fun | 0 => ⟨4, by decide⟩ | 1 => ⟨5, by decide⟩ | 2 => ⟨6, by decide⟩
def recvS : Fin 3 → DmaSem sig := fun | 0 => ⟨7, by decide⟩ | 1 => ⟨8, by decide⟩ | 2 => ⟨9, by decide⟩
def locS : DmaSem sig := ⟨10, by decide⟩

example : ((cc0_scratch4.slice (Rect.unit (s := S3) ![0] S1.size Gen.inb_S3_S1_0)).squeeze S_ Gen.squeezes_S1_S_).sem = sendS 0 := by decide
example : ((cc0_scratch5.slice (Rect.unit (s := S3) ![2] S1.size Gen.inb_S3_S1_2)).squeeze S_ Gen.squeezes_S1_S_).sem = recvS 2 := by rfl
example : cc0_scratch6.sem = locS := by rfl

abbrev barCell (c : Dev nD) : GSem nD τ sig := ((c : Thread nD τ), .reg barS)
abbrev sendCell (c : Dev nD) (e : Fin 3) : GSem nD τ sig := ((c : Thread nD τ), .dma (sendS e))
abbrev recvCell (c : Dev nD) (s : Fin 3) : GSem nD τ sig := ((c : Thread nD τ), .dma (recvS s))
abbrev locCell (c : Dev nD) : GSem nD τ sig := ((c : Thread nD τ), .dma locS)

/-! ## The row blocks of x -/

/-- The first row of the block that belongs to the device `d` further on. -/
abbrev rowOff (c : Dev nD) (d : ℕ) : Fin 2 → ℕ := ![1024 * (sh c d).val, 0]

/-- A row block of x lies inside x. -/
theorem rowOff_inb (c : Dev nD) (d : ℕ) : ∀ a, rowOff c d a + S1024x1024.size a ≤ S4096x1024.size a := by
  have h : (sh c d).val < 4 := (sh c d).isLt
  intro a; fin_cases a
  · show 1024 * (sh c d).val + 1024 ≤ 4096; omega
  · show 0 + 1024 ≤ 1024; omega

/-- The rows of device `c`'s x that belong to the device `d` further on. -/
abbrev xs (c : Dev nD) (d : ℕ) : Memref sig .tc .hbm S1024x1024 .f32 :=
  xM.slice (Rect.unit (s := S4096x1024) (rowOff c d) S1024x1024.size (rowOff_inb c d)) (fun _ => rfl)

/-- Rows of x taken at an equal offset are the row block. -/
theorem xs_eq (c : Dev nD) (d : ℕ) {off : Fin 2 → ℕ} (h : off = rowOff c d)
    (hb : ∀ a, off a + S1024x1024.size a ≤ S4096x1024.size a) :
    (xM.slice (Rect.unit (s := S4096x1024) off S1024x1024.size hb) (fun _ => rfl) : Memref sig .tc .hbm S1024x1024 .f32) = xs c d := by
  subst h; rfl

/-- The printed rows of the first block sent are those for the next device. -/
theorem off3_1 (c : Dev nD) : k0_off3 (wrd c) 1#32 = rowOff c 1 := by revert c; decide
/-- The printed rows of the second block sent are those for the device before. -/
theorem off3_3 (c : Dev nD) : k0_off3 (wrd c) 3#32 = rowOff c 3 := by revert c; decide
/-- The printed rows of the block kept are the device's own. -/
theorem off4_0 (c : Dev nD) : k0_off4 (wrd c) = rowOff c 0 := by revert c; decide
/-- The printed rows of the last block sent are those for the device opposite. -/
theorem off5_2 (c : Dev nD) : k0_off5 (wrd c) = rowOff c 2 := by revert c; decide

/-- The first device signalled is the next one. -/
theorem dev1 (c : Dev nD) : k0_dev1 (wrd c) = (sh c 1).val := by revert c; decide
/-- The second device signalled is the one opposite. -/
theorem dev2 (c : Dev nD) : k0_dev2 (wrd c) = (sh c 2).val := by revert c; decide
/-- The third device signalled is the one before. -/
theorem dev3 (c : Dev nD) : k0_dev3 (wrd c) = (sh c 3).val := by revert c; decide
/-- The first copy goes to the next device. -/
theorem dev4 (c : Dev nD) : k0_dev4 (wrd c) = (sh c 1).val := by revert c; decide
/-- The second copy goes to the device before. -/
theorem dev5 (c : Dev nD) : k0_dev5 (wrd c) = (sh c 3).val := by revert c; decide
/-- The third copy goes to the device opposite. -/
theorem dev6 (c : Dev nD) : k0_dev6 (wrd c) = (sh c 2).val := by revert c; decide

/-- The device further on is one of the mesh. -/
theorem sh_lt (c : Dev nD) (d : ℕ) : (sh c d).val < nD := (sh c d).isLt

/-- What the kernel assumes of its device word holds at every device. -/
theorem chk1 (i : grid0.Coords) (c : Dev nD) : k0_chk1 i (wrd c) := by
  refine ⟨fun _ => ?_, fun _ => ?_, fun _ => ?_, fun _ r => ?_, fun _ => ?_, fun _ => ?_, fun _ => ?_, fun _ => ?_, fun _ => ?_⟩
  · rw [dev1]; exact sh_lt c 1
  · rw [dev2]; exact sh_lt c 2
  · rw [dev3]; exact sh_lt c 3
  · fin_cases r
    · show ∀ a, k0_off3 (wrd c) 1#32 a + S1024x1024.size a ≤ S4096x1024.size a
      rw [off3_1]; exact rowOff_inb c 1
    · show ∀ a, k0_off3 (wrd c) 3#32 a + S1024x1024.size a ≤ S4096x1024.size a
      rw [off3_3]; exact rowOff_inb c 3
  · rw [dev4]; exact sh_lt c 1
  · rw [dev5]; exact sh_lt c 3
  · rw [off4_0]; exact rowOff_inb c 0
  · rw [off5_2]; exact rowOff_inb c 2
  · rw [dev6]; exact sh_lt c 2

/-- The word naming slot `s`. -/
abbrev swrd (s : Fin 3) : BitVec 32 := BitVec.ofNat 32 s.val

/-- The printed place of a slot's receive semaphore. -/
theorem off6 (s : Fin 3) : k0_off6 (swrd s) = ![s.val] := by revert s; decide
/-- The printed place of the slot waited for. -/
theorem off7 (s : Fin 3) : k0_off7 (swrd s) = ![s.val, 0, 0] := by revert s; decide
/-- The printed place of the slot read. -/
theorem off8 (s : Fin 3) : k0_off8 (swrd s) = ![s.val, 0, 0] := by revert s; decide

/-- Any slot of the receive buffer covers whole words. -/
theorem words3 (s : Fin 3) (off : Fin 3 → ℕ) (ho : off = ![s.val, 0, 0])
    (h : ∀ a, off a + S1x1024x1024.size a ≤ S3x1024x1024.size a) :
    (Rect.unit (s := S3x1024x1024) off S1x1024x1024.size h).WholeWords (EltTy.packing .bf16) := by
  subst ho
  fin_cases s
  · exact Gen.wordsbf16_S3x1024x1024_S1x1024x1024_0_0_0
  · exact Gen.wordsbf16_S3x1024x1024_S1x1024x1024_1_0_0
  · exact Gen.wordsbf16_S3x1024x1024_S1x1024x1024_2_0_0

/-- What the kernel assumes of its slot word holds at every slot. -/
theorem chk2 (i : grid0.Coords) (s : Fin 3) : k0_chk2 i (swrd s) := by
  refine ⟨fun _ => ?_, fun _ => ?_, fun _ h => ?_, fun _ => ?_⟩
  · rw [off6]; revert s; decide
  · rw [off7]; exact inb3 s
  · exact words3 s _ (off7 s) h
  · rw [off8]; exact inb3 s

/-! ## Conditions at a grid point -/

/-- The start is at the first point. -/
theorem cond1_iff (i : grid0.Coords) : k0_cond1 i = 1#1 ↔ (i 0).val = 0 ∧ (i 1).val = 0 := by revert i; decide
/-- The copy to the device opposite is at the first point of phase 1. -/
theorem cond2_iff (i : grid0.Coords) : k0_cond2 i = 1#1 ↔ (i 0).val = 1 ∧ (i 1).val = 0 := by revert i; decide
/-- A block is waited for at the first point of every phase but phase 0. -/
theorem cond3_iff (i : grid0.Coords) : k0_cond3 i = 1#1 ↔ 0 < (i 0).val ∧ (i 1).val = 0 := by revert i; decide
/-- The accumulator is set in phase 0. -/
theorem cond4_iff (i : grid0.Coords) : k0_cond4 i = 1#1 ↔ (i 0).val = 0 := by revert i; decide
/-- The accumulator is added to in phases 1 and 2. -/
theorem cond5_iff (i : grid0.Coords) : k0_cond5 i = 1#1 ↔ 0 < (i 0).val ∧ (i 0).val < 3 := by revert i; decide
/-- The result is written in phase 3. -/
theorem cond6_iff (i : grid0.Coords) : k0_cond6 i = 1#1 ↔ (i 0).val = 3 := by revert i; decide

/-! ## Contents -/

variable (X : (c : Dev nD) → Buf (Elt F) ((c : Thread nD τ).loc main_arg0))

/-- The row block of device `c`'s x that belongs to the device `d` further on. -/
def xrow (c : Dev nD) (d : ℕ) : Vec F S1024x1024 .f32 := (xs c d).view.read (Elt F) (X c)

/-- What the send buffer's slot `e` of device `c` holds: the row block for the device `e + 1` further on, rounded. -/
def sendW (c : Dev nD) (e : Fin 3) : Vec F S1x1024x1024 .bf16 := Gen.k0_pay3 (xrow X c (e.val + 1))

/-- What lands in slot `s` of device `c`: the block the device `s + 1` further on holds for it, rounded. -/
def commW (c : Dev nD) (s : Fin 3) : Vec F S1x1024x1024 .bf16 := Gen.k0_pay3 (xrow X (sh c (s.val + 1)) (3 - s.val))

/-- The slot phase `p` reads. -/
def slotOf (p : ℕ) : Fin 3 := if p = 1 then 0 else if p = 2 then 2 else 1

/-- The left operand of phase `p`: the device's own block, then the blocks received. -/
def chunkV (c : Dev nD) (p : ℕ) : Vec F S1024x1024 .f32 :=
  if p = 0 then xrow X c 0 else Gen.k0_pay6 (commW X c (slotOf p))

/-- What a device sends is what lands in its peer's slot. -/
theorem send_comm (c : Dev nD) (e s : Fin 3) (h : e.val + s.val = 2) : sendW X c e = commW X (sh c (e.val + 1)) s := by
  unfold sendW commW
  have h1 : sh (sh c (e.val + 1)) (s.val + 1) = c := by
    apply Fin.ext; show (((c.val + (e.val + 1)) % 4) + (s.val + 1)) % 4 = c.val
    have : c.val < 4 := c.isLt
    omega
  rw [h1, show 3 - s.val = e.val + 1 by omega]

/-- A slot read as a matrix is the slot read as a slab, re-indexed: a copy of one slot's matrix into another lands the slab. -/
theorem land_read (e s : Fin 3) (fs : cc0_scratch3.ty.Contents (Elt F)) (fd : cc0_scratch1.ty.Contents (Elt F)) :
    (commM.access (rs s)).read (Elt F) ((cs s).view.write (Elt F) fd ((ss e).view.read (Elt F) fs) Finset.univ)
      = (sendM.access (rs e)).read (Elt F) fs := by
  funext y
  obtain ⟨x, rfl⟩ := (Shape.reshapeEquiv Gen.squeezes_S1x1024x1024_S1024x1024.numel_eq).surjective y
  show (cs s).view.read (Elt F) _ x = (ss e).view.read (Elt F) fs x
  rw [View.read_write_univ]

/-- The elements of a receive slot. -/
theorem cs_set (s : Fin 3) : (cs s).view.set = (commM.access (rs s)).set := View.set_reshape ..
/-- The elements of a send slot. -/
theorem ss_set (s : Fin 3) : (ss s).view.set = (sendM.access (rs s)).set := View.set_reshape ..

/-- An element is in slot `s` exactly if its first coordinate is `s`. -/
theorem mem_rs (s : Fin 3) (i : S3x1024x1024.Idx) : i ∈ (rs s).set ↔ (i 0).val = s.val := by
  rw [Rect.mem_set_unit]
  constructor
  · intro h
    have h0 := h 0
    have : s.val ≤ (i 0).val ∧ (i 0).val < s.val + 1 := h0
    omega
  · intro h a
    fin_cases a
    · show s.val ≤ (i 0).val ∧ (i 0).val < s.val + 1; omega
    · show 0 ≤ (i 1).val ∧ (i 1).val < 0 + 1024; exact ⟨Nat.zero_le _, by have : (i 1).val < 1024 := (i 1).isLt; omega⟩
    · show 0 ≤ (i 2).val ∧ (i 2).val < 0 + 1024; exact ⟨Nat.zero_le _, by have : (i 2).val < 1024 := (i 2).isLt; omega⟩

/-- The elements of a receive slot, in the buffer. -/
theorem cs_rs (s : Fin 3) : (cs s).view.set = (rs s).set := (cs_set s).trans (View.set_slice_whole cc0_scratch1 (rs s))
/-- The elements of a send slot, in the buffer. -/
theorem ss_rs (s : Fin 3) : (ss s).view.set = (rs s).set := (ss_set s).trans (View.set_slice_whole cc0_scratch3 (rs s))

end Cert.A2A

end
-- ==== Proof.Protocol.lean ====
module

public import proofs.«01_k».proof.Proof.Setup
public import Idealize.ShloMosaic.Lib.Rounds

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal

variable {F : FTy → Type} [FloatOps F]

/-! ## The resource algebra: the pipeline's copy, and the exchange's with three duties a round -/

abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

abbrev 𝒱₀ : Variants := Variants.none

/-- What one slot's copy credits, what one block's copy credits. -/
abbrev NS : ℕ := (cs 0).view.dmaCredit
abbrev NL : ℕ := chM.view.dmaCredit
/-- A slot's copy credits something. -/
theorem NS_pos : 0 < NS := View.dmaCredit_pos _ (by decide)
/-- A block's copy credits something. -/
theorem NL_pos : 0 < NL := View.dmaCredit_pos _ (by decide)

/-- Going `a` and then `b` devices on is going `a + b` on. -/
theorem sh_sh (c : Dev nD) (a b : ℕ) : sh (sh c a) b = sh c (a + b) := by
  apply Fin.ext; show ((c.val + a) % 4 + b) % 4 = (c.val + (a + b)) % 4; omega
/-- Four devices on is the device itself. -/
theorem sh_four (c : Dev nD) : sh c 4 = c := by
  apply Fin.ext; show (c.val + 4) % 4 = c.val
  have : c.val < 4 := c.isLt
  omega
/-- Going `a` devices on and then the rest of the ring comes back. -/
theorem sh_back (c : Dev nD) (a b : ℕ) (h : a + b = 4) : sh (sh c a) b = c := by rw [sh_sh, h, sh_four]

/-! ## Points-tos -/

/-- Slot `s` of device `c`'s receive buffer, slot `e` of its send buffer, at contents `f`. -/
abbrev cPts (c : Dev nD) (s : Fin 3) (f : Buf (Elt F) ((c : Thread nD τ).loc cc0_scratch1)) : sProp 𝕄 :=
  (cs s).view.loc (c : Thread nD τ) ↦[(cs s).view.set]{fullShare} f
abbrev sPts (c : Dev nD) (e : Fin 3) (f : Buf (Elt F) ((c : Thread nD τ).loc cc0_scratch3)) : sProp 𝕄 :=
  (ss e).view.loc (c : Thread nD τ) ↦[(ss e).view.set]{fullShare} f
def cAny (c : Dev nD) (s : Fin 3) : sProp 𝕄 := iprop(∃ f, cPts c s f)
def sAny (c : Dev nD) (e : Fin 3) : sProp 𝕄 := iprop(∃ f, sPts c e f)
/-- The block buffer, whole, at `f`. -/
abbrev hPts (c : Dev nD) (f : Buf (Elt F) ((c : Thread nD τ).loc cc0_scratch2)) : sProp 𝕄 :=
  (c : Thread nD τ).loc cc0_scratch2 ↦{fullShare} f

variable (X : (c : Dev nD) → Buf (Elt F) ((c : Thread nD τ).loc main_arg0))

/-- Device `c`'s x. -/
abbrev xPts (c : Dev nD) : sProp 𝕄 := (c : Thread nD τ).loc main_arg0 ↦{fullShare} X c

/-- A received slot, at what lands there. -/
def cGot (c : Dev nD) (s : Fin 3) : sProp 𝕄 := iprop(∃ f, ⌜(commM.access (rs s)).read (Elt F) f = commW X c s⌝ ∗ cPts c s f)

/-! ## The schedule -/

/-- Device `d`'s slot `s`, and that its receive semaphore has been opened. -/
def bp (d : Dev nD) (s : Fin 3) : sProp 𝕄 := iprop(cAny d s ∗ reached ER (recvCell d s) 0)

/-- Duty `k` of device `c`'s barrier brings slot `k` of the device that will be `k + 1` behind. -/
def barPay (c : Dev nD) (k : Fin 3) : sProp 𝕄 := bp (sh c (3 - k.val)) k

/-- Which block the `r`-th local copy takes. -/
def dOf (r : ℕ) : ℕ := if r = 0 then 1 else if r = 1 then 3 else if r = 2 then 0 else 2

/-- The `r`-th local copy gives the block buffer at the block, and the block back. -/
def locPay (c : Dev nD) (r : ℕ) : sProp 𝕄 :=
  iprop((chM.view.loc (c : Thread nD τ) ↦[chM.view.set]{fullShare} xrow X c (dOf r))
    ∗ ((xs c (dOf r)).view.loc (c : Thread nD τ) ↦[(xs c (dOf r)).view.set]{fullShare} X c))

def dutiesOf (sm : SemLoc sig) (r : ℕ) : Finset (Fin 3) :=
  match sm with
  | .reg q => if r = 0 ∧ q = barS then Finset.univ else ∅
  | .dma q => if (r = 0 ∧ 4 ≤ q.val) ∨ (r < 4 ∧ q = locS) then {0} else ∅

def payOf (c : Dev nD) (r : ℕ) (d : Fin 3) (sm : SemLoc sig) : sProp 𝕄 :=
  match sm with
  | .reg _ => barPay c d
  | .dma q => match q.val with
    | 4 => sAny c 0 | 5 => sAny c 1 | 6 => sAny c 2
    | 7 => cGot X c 0 | 8 => cGot X c 1 | 9 => cGot X c 2
    | 10 => locPay X c r
    | _ => iprop(emp)

def a2aRd : Rounds.Schedule (GSem nD τ sig) (Fin 3) 𝕄 where
  duties g r := if g.1.2 = .tc then dutiesOf g.2 r else ∅
  unitless _ := False
  amount g _ _ := match g.2 with | .reg _ => 1 | .dma q => if q = locS then NL else NS
  payload g r d := payOf X g.1.1 r d g.2
  amount_pos g _ _ _ := by
    rcases g with ⟨t, sm⟩
    cases sm with
    | reg q => exact Nat.one_pos
    | dma q => show 0 < if q = locS then NL else NS; split; exacts [NL_pos, NS_pos]

instance a2aRd_storable (g : GSem nD τ sig) (r : ℕ) (d : Fin 3) :
    BI.Storable (upEmb : UEmb _ 𝕄) ((a2aRd (F := F) X).payload g r d) := by
  show BI.Storable upEmb (payOf X g.1.1 r d g.2)
  unfold payOf barPay bp sAny cAny cGot locPay
  (repeat' split) <;> infer_instance

section Sched

variable (c : Dev nD)

/-- A barrier has three duties. -/
theorem duties_bar : (a2aRd (F := F) X).duties (barCell c) 0 = Finset.univ := rfl
/-- A send semaphore has one duty. -/
theorem duties_send (e : Fin 3) : (a2aRd (F := F) X).duties (sendCell c e) 0 = {0} := by fin_cases e <;> rfl
/-- A receive semaphore has one duty. -/
theorem duties_recv (e : Fin 3) : (a2aRd (F := F) X).duties (recvCell c e) 0 = {0} := by fin_cases e <;> rfl
/-- The local semaphore has one duty in each of its four rounds. -/
theorem duties_loc (r : ℕ) (h : r < 4) : (a2aRd (F := F) X).duties (locCell c) r = {0} := by
  show (if (r = 0 ∧ 4 ≤ locS.val) ∨ (r < 4 ∧ locS = locS) then ({0} : Finset (Fin 3)) else ∅) = {0}
  exact if_pos (Or.inr ⟨h, rfl⟩)

/-- No semaphore has duties after four rounds. -/
theorem duties_late4 (g : GSem nD τ sig) : ∀ r, 4 ≤ r → (a2aRd (F := F) X).duties g r = ∅ := fun r hr => by
  rcases g with ⟨t, sm⟩
  show (if t.2 = .tc then dutiesOf sm r else ∅) = ∅
  split
  · cases sm with
    | reg q => exact if_neg (by omega)
    | dma q => exact if_neg (by omega)
  · rfl
/-- No semaphore but the local one has duties after its first round. -/
theorem duties_late1 (g : GSem nD τ sig) (hg : g.2 ≠ .dma locS) : ∀ r, 1 ≤ r → (a2aRd (F := F) X).duties g r = ∅ := fun r hr => by
  rcases g with ⟨t, sm⟩
  show (if t.2 = .tc then dutiesOf sm r else ∅) = ∅
  split
  · cases sm with
    | reg q => exact if_neg (by omega)
    | dma q => exact if_neg (fun h => h.elim (fun h => by omega) (fun h => hg (by rw [h.2])))
  · rfl

/-- The duty of a send semaphore pays a slot's credit. -/
theorem amount_send (e : Fin 3) (r : ℕ) (d : Fin 3) : (a2aRd (F := F) X).amount (sendCell c e) r d = NS := by fin_cases e <;> rfl
/-- The duty of a receive semaphore pays a slot's credit. -/
theorem amount_recv (e : Fin 3) (r : ℕ) (d : Fin 3) : (a2aRd (F := F) X).amount (recvCell c e) r d = NS := by fin_cases e <;> rfl
/-- A duty of the local semaphore pays a block's credit. -/
theorem amount_loc (r : ℕ) (d : Fin 3) : (a2aRd (F := F) X).amount (locCell c) r d = NL := rfl

/-- A barrier expects three units. -/
theorem expect_bar : (a2aRd (F := F) X).expect (barCell c) 0 = 3 := rfl
/-- A send semaphore expects a slot's credit. -/
theorem expect_send (e : Fin 3) : (a2aRd (F := F) X).expect (sendCell c e) 0 = NS := by
  unfold Schedule.expect Schedule.amountOf; rw [duties_send, Finset.sum_singleton, amount_send]
/-- A receive semaphore expects a slot's credit. -/
theorem expect_recv (e : Fin 3) : (a2aRd (F := F) X).expect (recvCell c e) 0 = NS := by
  unfold Schedule.expect Schedule.amountOf; rw [duties_recv, Finset.sum_singleton, amount_recv]
/-- The local semaphore expects a block's credit in each round. -/
theorem expect_loc (r : ℕ) (h : r < 4) : (a2aRd (F := F) X).expect (locCell c) r = NL := by
  unfold Schedule.expect Schedule.amountOf; rw [duties_loc X c r h, Finset.sum_singleton, amount_loc]

/-- What a barrier's duty hands over. -/
theorem payload_bar (r : ℕ) (k : Fin 3) : (a2aRd (F := F) X).payload (barCell c) r k = barPay c k := rfl
/-- A send semaphore's duty gives the send slot back. -/
theorem payload_send (e : Fin 3) (r : ℕ) (k : Fin 3) : (a2aRd (F := F) X).payload (sendCell c e) r k = sAny c e := by fin_cases e <;> rfl
/-- A receive semaphore's duty hands over the slot with the block that landed. -/
theorem payload_recv (e : Fin 3) (r : ℕ) (k : Fin 3) : (a2aRd (F := F) X).payload (recvCell c e) r k = cGot X c e := by fin_cases e <;> rfl
/-- The local semaphore's duty hands over the block buffer and the block of x. -/
theorem payload_loc (r : ℕ) (k : Fin 3) : (a2aRd (F := F) X).payload (locCell c) r k = locPay X c r := rfl

/-- Waiting at the barrier brings one receive slot of each other device. -/
theorem rest_bar : bigSep ((a2aRd (F := F) X).duties (barCell c) 0 \ ∅) (fun u => (a2aRd (F := F) X).payload (barCell c) 0 u)
    = iprop(bp (sh c 3) 0 ∗ bp (sh c 2) 1 ∗ bp (sh c 1) 2) := by
  rw [Finset.sdiff_empty, duties_bar]
  exact bigSep_univ_eq_bigSepL [0, 1, 2] (by decide) (by decide) _
/-- Waiting on a send semaphore brings the send slot. -/
theorem rest_send (e : Fin 3) : bigSep ((a2aRd (F := F) X).duties (sendCell c e) 0 \ ∅) (fun u => (a2aRd (F := F) X).payload (sendCell c e) 0 u) = sAny c e := by
  rw [Finset.sdiff_empty, duties_send, bigSep_singleton, payload_send]
/-- Waiting on a receive semaphore brings the slot with the block that landed. -/
theorem rest_recv (e : Fin 3) : bigSep ((a2aRd (F := F) X).duties (recvCell c e) 0 \ ∅) (fun u => (a2aRd (F := F) X).payload (recvCell c e) 0 u) = cGot X c e := by
  rw [Finset.sdiff_empty, duties_recv, bigSep_singleton, payload_recv]
/-- Waiting on the local semaphore brings the block buffer and the block of x. -/
theorem rest_loc (r : ℕ) (h : r < 4) : bigSep ((a2aRd (F := F) X).duties (locCell c) r \ ∅) (fun u => (a2aRd (F := F) X).payload (locCell c) r u) = locPay X c r := by
  rw [Finset.sdiff_empty, duties_loc X c r h, bigSep_singleton, payload_loc]

end Sched

/-! ## What each core owes; the levels -/

/-- The three receive credits in the order they are paid off, then the three barrier units. -/
def OA (c : Dev nD) : CellTallies nD τ sig Unit := 0 + tallyAt (recvCell (sh c 2) 1) () NS
def OB (c : Dev nD) : CellTallies nD τ sig Unit := OA c + tallyAt (recvCell (sh c 3) 0) () NS
def OC (c : Dev nD) : CellTallies nD τ sig Unit := OB c + tallyAt (recvCell (sh c 1) 2) () NS
def O₀ (c : Dev nD) : CellTallies nD τ sig Unit :=
  OC c + tallyAt (barCell (sh c 3)) () 1 + tallyAt (barCell (sh c 2)) () 1 + tallyAt (barCell (sh c 1)) () 1

def L (g : GSem nD τ sig) : Finset Unit := if g.1.2 = .tc then {()} else ∅
/-- Barrier cells at 1, receive cells at 2, the rest at 0. -/
def lv (g : GSem nD τ sig) (_ : Unit) : ℕ :=
  match g.2 with
  | .reg _ => 1
  | .dma q => if q.val = 7 ∨ q.val = 8 ∨ q.val = 9 then 2 else 0

/-- Threads other than the tensor cores' have no levels. -/
theorem L_of_ne (g : GSem nD τ sig) (h : g.1.2 ≠ .tc) : L g = ∅ := if_neg h
/-- Each semaphore of a tensor core has one level. -/
theorem L_tc (c : Dev nD) (sm : SemLoc sig) : L ((c : Thread nD τ), sm) = {()} := if_pos rfl
/-- The barriers lie at level 1. -/
theorem lv_bar (c : Dev nD) (u : Unit) : lv (barCell c) u = 1 := rfl
/-- The receive semaphores lie at level 2. -/
theorem lv_recv (c : Dev nD) (s : Fin 3) (u : Unit) : lv (recvCell c s) u = 2 := by fin_cases s <;> rfl

/-- What is owed is owed at cells of the tensor cores, at levels above `b`. -/
def Above (b : ℕ) (O : CellTallies nD τ sig Unit) : Prop := ∀ g u, 0 < O g u → u ∈ L g ∧ b < lv g u

/-- Owing nothing is above every level. -/
theorem Above.zero (b : ℕ) : Above b 0 := fun g u h => absurd h (Nat.lt_irrefl 0)
/-- A debt at a cell above the level, added to debts above it, leaves all of them above it. -/
theorem Above.add {b : ℕ} {O : CellTallies nD τ sig Unit} (h : Above b O) (g : GSem nD τ sig) (n : ℕ) (hL : () ∈ L g) (hl : b < lv g ()) :
    Above b (O + tallyAt g () n) := fun g' u hg => by
  by_cases hO : 0 < O g' u
  · exact h g' u hO
  · have h' : 0 < tallyAt g () n g' u := by
      have : (O + tallyAt g () n) g' u = O g' u + tallyAt g () n g' u := rfl
      omega
    rw [tallyAt_apply] at h'
    by_cases e : g' = g ∧ u = ()
    · rw [e.1, e.2]; exact ⟨hL, hl⟩
    · rw [if_neg e] at h'; exact absurd h' (Nat.lt_irrefl 0)
/-- Debts above a level are above a lower one. -/
theorem Above.mono {b b' : ℕ} {O : CellTallies nD τ sig Unit} (h : Above b O) (hb : b' ≤ b) : Above b' O :=
  fun g u hg => ⟨(h g u hg).1, lt_of_le_of_lt hb (h g u hg).2⟩

/-- A semaphore of a tensor core has its level. -/
theorem mem_L (c : Dev nD) (sm : SemLoc sig) : () ∈ L ((c : Thread nD τ), sm) := by rw [L_tc]; exact Finset.mem_singleton_self _

/-- The last receive credit lies above the barriers. -/
theorem above_A (c : Dev nD) : Above 1 (OA c) := (Above.zero 1).add _ _ (mem_L _ _) (by rw [lv_recv]; decide)
/-- The last two receive credits lie above the barriers. -/
theorem above_B (c : Dev nD) : Above 1 (OB c) := (above_A c).add _ _ (mem_L _ _) (by rw [lv_recv]; decide)
/-- The three receive credits lie above the barriers. -/
theorem above_C (c : Dev nD) : Above 1 (OC c) := (above_B c).add _ _ (mem_L _ _) (by rw [lv_recv]; decide)
/-- Everything owed at launch lies above level 0. -/
theorem above_0 (c : Dev nD) : Above 0 (O₀ c) :=
  (((Above.mono (above_C c) (Nat.zero_le 1)).add _ _ (mem_L _ _) (by rw [lv_bar]; decide)).add _ _ (mem_L _ _) (by rw [lv_bar]; decide)).add _ _ (mem_L _ _) (by rw [lv_bar]; decide)

/-- A wait at level `b` under debts above `b`. -/
theorem mayWait (c : Dev nD) (sm : SemLoc sig) (b : ℕ) (hb : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp]; exact mem_L c sm)
    (fun g u hg => (hO g u hg).1) (fun p hp => by rw [Finset.mem_singleton.mp hp]; exact hb) (fun g u hg => (hO g u hg).2)

/-- What core `c` owes, its recorded waits unnamed. -/
def owesE (c : Dev nD) (O : CellTallies nD τ sig Unit) : sProp 𝕄 := iprop(∃ W, owes (c : Thread nD τ) O W)

/-! ## The records: the invariants, and the barriers' first rounds -/

def barEmb : Dev nD ↪ GSem nD τ sig := ⟨barCell, fun a b h => by simpa using congrArg (fun g => g.1.1) h⟩

def scKey : Dev nD × Fin 7 → GSem nD τ sig
  | (c, 0) => sendCell c 0 | (c, 1) => sendCell c 1 | (c, 2) => sendCell c 2
  | (c, 3) => recvCell c 0 | (c, 4) => recvCell c 1 | (c, 5) => recvCell c 2
  | (c, 6) => locCell c

/-- The kernel's own scoped semaphores. -/
def osem : Fin 7 → SemLoc sig
  | 0 => .dma (sendS 0) | 1 => .dma (sendS 1) | 2 => .dma (sendS 2)
  | 3 => .dma (recvS 0) | 4 => .dma (recvS 1) | 5 => .dma (recvS 2)
  | 6 => .dma locS
/-- The seven scoped semaphores are different. -/
theorem osem_inj : Function.Injective osem := by decide
/-- A scoped cell is its device's thread and semaphore. -/
theorem scKey_eq (p : Dev nD × Fin 7) : scKey p = ((p.1 : Thread nD τ), osem p.2) := by
  obtain ⟨c, k⟩ := p; fin_cases k <;> rfl
/-- The scoped cells of the four devices are different. -/
theorem scKey_inj : Function.Injective scKey := fun p q h => by
  rw [scKey_eq, scKey_eq] at h
  exact Prod.ext (by simpa using congrArg (fun g => g.1.1) h) (osem_inj (congrArg Prod.snd h))

def barCells : Finset (GSem nD τ sig) := Finset.univ.map barEmb
def scCells : Finset (GSem nD τ sig) := Finset.univ.map ⟨scKey, scKey_inj⟩

/-- A device's barrier is among the barriers. -/
theorem bar_mem (c : Dev nD) : barCell c ∈ barCells := Finset.mem_map.mpr ⟨c, Finset.mem_univ _, rfl⟩
/-- A device's scoped cell is among the scoped cells. -/
theorem sc_mem (p : Dev nD × Fin 7) : scKey p ∈ scCells := Finset.mem_map.mpr ⟨p, Finset.mem_univ _, rfl⟩
/-- A send cell is among the scoped cells. -/
theorem send_mem (c : Dev nD) (e : Fin 3) : sendCell c e ∈ scCells := by
  fin_cases e; exacts [sc_mem (c, 0), sc_mem (c, 1), sc_mem (c, 2)]
/-- A receive cell is among the scoped cells. -/
theorem recv_mem (c : Dev nD) (e : Fin 3) : recvCell c e ∈ scCells := by
  fin_cases e; exacts [sc_mem (c, 3), sc_mem (c, 4), sc_mem (c, 5)]
/-- A local cell is among the scoped cells. -/
theorem loc_mem (c : Dev nD) : locCell c ∈ scCells := sc_mem (c, 6)

def records (κ : GSem nD τ sig → ℕ) : sProp 𝕄 :=
  iprop((bigSep (barCells ∪ scCells) fun g => cellInv ER (a2aRd X) (κ g) g) ∗ bigSep barCells fun g => reached ER g 0)
instance records_persistent (κ : GSem nD τ sig → ℕ) : BI.Persistent (records X κ) := by unfold records; infer_instance

variable (κ : GSem nD τ sig → ℕ)

/-- The records hold the invariant of every cell. -/
theorem inv_at {g : GSem nD τ sig} (h : g ∈ barCells ∪ scCells) : records X κ ⊢ (cellInv ER (a2aRd X) (κ g) g : sProp 𝕄) := by
  unfold records
  have e : (bigSep (barCells ∪ scCells) fun g => (cellInv ER (a2aRd X) (κ g) g : sProp 𝕄)) ⊢ cellInv ER (a2aRd X) (κ g) g := bigSep_elim h
  iintro ⟨H, -⟩
  iapply e; iexact H
/-- The records hold a barrier's invariant. -/
theorem inv_bar (c : Dev nD) : records X κ ⊢ (cellInv ER (a2aRd X) (κ (barCell c)) (barCell c) : sProp 𝕄) :=
  inv_at X κ (Finset.mem_union_left _ (bar_mem c))
/-- The records hold a send cell's invariant. -/
theorem inv_send (c : Dev nD) (e : Fin 3) : records X κ ⊢ (cellInv ER (a2aRd X) (κ (sendCell c e)) (sendCell c e) : sProp 𝕄) :=
  inv_at X κ (Finset.mem_union_right _ (send_mem c e))
/-- The records hold a receive cell's invariant. -/
theorem inv_recv (c : Dev nD) (e : Fin 3) : records X κ ⊢ (cellInv ER (a2aRd X) (κ (recvCell c e)) (recvCell c e) : sProp 𝕄) :=
  inv_at X κ (Finset.mem_union_right _ (recv_mem c e))
/-- The records hold a local cell's invariant. -/
theorem inv_loc (c : Dev nD) : records X κ ⊢ (cellInv ER (a2aRd X) (κ (locCell c)) (locCell c) : sProp 𝕄) :=
  inv_at X κ (Finset.mem_union_right _ (loc_mem c))
/-- The records say that every barrier is in its first round. -/
theorem reached_bar (c : Dev nD) : records X κ ⊢ (reached ER (barCell c) 0 : sProp 𝕄) := by
  unfold records
  have e : (bigSep barCells fun g => (reached ER g 0 : sProp 𝕄)) ⊢ reached ER (barCell c) 0 := bigSep_elim (bar_mem c)
  iintro ⟨-, H⟩
  iapply e; iexact H

/-- A cell whose rounds are over is closed: its counter comes back at zero. -/
theorem close1 {g : GSem nD τ sig} (h : g ∈ barCells ∪ scCells) (hg : g.2 ≠ .dma locS) :
    iprop(records X κ ∗ atPos ER g 1 ∅ 0) ⊢ (|={Set.univ}=> semVal g 0 : sProp 𝕄) :=
  (sep_mono_left (inv_at X κ h)).trans (Rounds.cell_close ER (a2aRd X) (Set.mem_univ _) id (duties_late1 X g hg))
/-- The local cell, its four rounds over, is closed: its counter comes back at zero. -/
theorem close4 (c : Dev nD) :
    iprop(records X κ ∗ atPos ER (locCell c) 4 ∅ 0) ⊢ (|={Set.univ}=> semVal (locCell c) 0 : sProp 𝕄) :=
  (sep_mono_left (inv_loc X κ c)).trans (Rounds.cell_close ER (a2aRd X) (Set.mem_univ _) id (duties_late4 X (locCell c)))

end Cert.A2A

end
-- ==== Proof.Steps.lean ====
module

public import proofs.«01_k».proof.Proof.Protocol

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal

variable {F : FTy → Type} [FloatOps F]

local notation "𝕄" => MT nD τ sig Unit (Elt F) ℕ UU ℕ

variable (X : (c : Dev nD) → Buf (Elt F) ((c : Thread nD τ).loc main_arg0)) (κ : GSem nD τ sig → ℕ)

/-- The body's programs at device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to the device `k + 1` further on: it is handed the own slot `k`. -/
theorem step_signal (c n : Dev nD) (k : Fin 3) (hn : n = sh c (k.val + 1)) (sem : Sem sig) (hs : sem = barS) (w : BitVec 32) (hw : w = 1#32)
    (O O' : CellTallies nD τ sig Unit) (hO : O' = O + tallyAt (barCell (sh c (k.val + 1))) () 1)
    {α : Type} {Q : α → sProp 𝕄} {p : PUnit → Prog (TpuEff nD τ sig (Elt F) Λ₀ .tc) α} :
    iprop(records X κ ∗ owesE c O' ∗ dutyTok ER (barCell (sh c (k.val + 1))) 0 k ∗ cAny c k ∗ reached ER (recvCell c k) 0)
      ⊢ iprop((owesE c O -∗ wpB c (p ⟨⟩) Q) -∗ wpB c (.op (.semSignal (Dev.tc n) sem w.toInt) p) Q) := by
  subst hn hw hs hO
  rw [show (1#32 : BitVec 32).toInt = ((1#32 : BitVec 32).toNat : Int) from rfl]
  iintro ⟨#HR, HO, Ht, Hc, #Hr⟩ Hk
  unfold owesE
  icases HO with ⟨%W, HO⟩
  iapply (Rounds.wp_signal 𝒱₀ ER (a2aRd X) (c : Thread nD τ) none (dst := (sh c (k.val + 1) : Thread nD τ)) (sem := barS) (r := 0) (d := k)
      (κ := κ (barCell (sh c (k.val + 1))))
      (by rw [duties_bar]; exact Finset.mem_univ _) (show (a2aRd X).amount (barCell (sh c (k.val + 1))) 0 k = (1#32 : BitVec 32).toNat from rfl) () O rfl)
    $$ [HO Ht Hc]
  · isplitr; · iapply (inv_bar X κ (sh c (k.val + 1))); iexact HR
    isplitl [HO]; · iexact HO
    isplitl [Ht]; · iexact Ht
    isplitl [Hc]
    · rw [payload_bar]; unfold barPay bp
      rw [sh_back c _ _ (by omega : k.val + 1 + (3 - k.val) = 4)]
      isplitl [Hc]; · iexact Hc
      iexact Hr
    · iapply (reached_bar X κ (sh c (k.val + 1))); iexact HR
  iintro HO
  iapply Hk
  iexists W; iexact HO

/-- The wait for the three others: their slots come with it. -/
theorem step_wait_bar (c : Dev nD) (sem : Sem sig) (hs : sem = barS) (w : BitVec 32) (hw : w = 3#32)
    {α : Type} {Q : α → sProp 𝕄} {p : PUnit → Prog (TpuEff nD τ sig (Elt F) Λ₀ .tc) α} :
    iprop(records X κ ∗ levAts L lv ∗ cred (tallyAt (barCell c) () 3) ∗ owesE c (OC c) ∗ atPos ER (barCell c) 0 ∅ 0)
      ⊢ iprop(((owesE c (OC c) ∗ atPos ER (barCell c) 1 ∅ 0 ∗ bp (sh c 3) 0 ∗ bp (sh c 2) 1 ∗ bp (sh c 1) 2) -∗ wpB c (p ⟨⟩) Q)
          -∗ wpB c (.op (.semWait sem w.toInt) p) Q) := by
  subst hw hs
  rw [show (3#32 : BitVec 32).toInt = ((3#32 : BitVec 32).toNat : Int) from rfl]
  iintro ⟨#HR, #Hlev, Hc, HO, Hat⟩ Hk
  unfold owesE
  icases HO with ⟨%W, HO⟩
  iapply (Rounds.wp_wait_rest_token 𝒱₀ ER (a2aRd X) (c : Thread nD τ) none (κ := κ (barCell c))
      (wpE_semWait_eq 𝒱₀ (c : Thread nD τ) none Set.univ) (Set.mem_univ _) () (O := OC c) (W := W) (R := 0) (m := 0) (T := ∅)
      (by rw [expect_bar]; decide)) $$ [Hc HO Hat]
  · isplitr; · iapply (inv_bar X κ c); iexact HR
    isplitl [Hc]; · iexact Hc
    isplitl [HO]; · iexact HO
    isplitr; · iapply (mayWait c (.reg barS) 1 (le_of_eq (lv_bar c ())) (OC c) (above_C c)); iexact Hlev
    iexact Hat
  iintro ⟨HO, Hat, -, Hpay⟩
  ihave Hp := (Entails.of_eq (rest_bar X c)) $$ Hpay
  iapply Hk
  isplitl [HO]; · iexists _; iexact HO
  isplitl [Hat]; · iexact Hat
  iexact Hp

/-- A copy of a slot of the send buffer into the mirrored slot of the device `e + 1` further on. -/
theorem step_send (c n : Dev nD) (e s : Fin 3) (hes : e.val + s.val = 2) (hn : n = sh c (e.val + 1))
    (src dst : Memref sig .tc .vmem S1024x1024 .bf16) (hsrc : src = ss e) (hdst : dst = cs s) (sS sR : DmaSem sig) (hsS : sS = sendS e) (hsR : sR = recvS s)
    (O O' : CellTallies nD τ sig Unit) (hO : O' = O + tallyAt (recvCell (sh c (e.val + 1)) s) () NS)
    (f : Buf (Elt F) ((c : Thread nD τ).loc cc0_scratch3)) (hf : (sendM.access (rs e)).read (Elt F) f = sendW X c e)
    {hsc : dst.view.ref.isScScratch = false} {h1 : src.view.WordExact} {h2 : dst.view.WordExact} {h3 : DmaTarget.Typed .vmem (.dma sR) (.remote (Dev.tc n) dst (.dma sS) hsc)}
    {α : Type} {Q : α → sProp 𝕄} {p : PUnit → Prog (TpuEff nD τ sig (Elt F) Λ₀ .tc) α} :
    iprop(records X κ ∗ owesE c O' ∗ sPts c e f ∗ bp (sh c (e.val + 1)) s ∗ dutyTok ER (sendCell c e) 0 0 ∗ reached ER (sendCell c e) 0
        ∗ dutyTok ER (recvCell (sh c (e.val + 1)) s) 0 0)
      ⊢ iprop(((cred (tallyAt (sendCell c e) () NS) ∗ owesE c O) -∗ wpB c (p ⟨⟩) Q)
          -∗ wpB c (.op (.enqueueDma src (.remote (Dev.tc n) dst (.dma sS) hsc) (.dma sR) h1 h2 h3) p) Q) := by
  subst hn hsrc hdst hsS hsR hO
  iintro ⟨#HR, HO, Hs, Hb, Ht, #Hr, Ht'⟩ Hk
  unfold owesE bp cAny
  icases HO with ⟨%W, HO⟩
  icases Hb with ⟨⟨%fd, Hd⟩, #Hr'⟩
  iapply (Rounds.wp_send_pointsTo 𝒱₀ ER (a2aRd X) (c : Thread nD τ) none (c' := (sh c (e.val + 1) : Thread nD τ)) (src := ss e) (dst := cs s)
      (sS := .dma (sendS e)) (sem := .dma (recvS s)) (q := fullShare) (fs := f) (κ₁ := κ (sendCell c e)) (κ₂ := κ (recvCell (sh c (e.val + 1)) s))
      (r₁ := 0) (r₂ := 0) (d₁ := 0) (d₂ := 0) (fd := fd)
      (by rw [duties_send]; exact Finset.mem_singleton_self _) (by rw [duties_recv]; exact Finset.mem_singleton_self _)
      () () NS rfl (amount_send X c e 0 0) (amount_recv X (sh c (e.val + 1)) s 0 0) O rfl (W := W)
      (by rw [payload_send]; unfold sAny sPts; iintro H; iexists f; iexact H)
      (by rw [payload_recv]; unfold cGot; iintro H; iexists _; isplitr
          swap; · iexact H
          ipureintro; rw [← send_comm X c e s hes, ← hf]; exact land_read e s f fd)) $$ [HO Hs Hd Ht Ht']
  · isplitr; · iapply (inv_send X κ c e); iexact HR
    isplitr; · iapply (inv_recv X κ (sh c (e.val + 1)) s); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- The wait for the own copy out of slot `e`: the slot comes back. -/
theorem step_wait_send (c : Dev nD) (e : Fin 3) (sS : DmaSem sig) (hsS : sS = sendS e)
    (src dst : Memref sig .tc .vmem S1024x1024 .bf16) (hdst : dst = ss e)
    {h1 : src.view.WordExact} {h2 : dst.view.WordExact}
    {α : Type} {Q : α → sProp 𝕄} {p : PUnit → Prog (TpuEff nD τ sig (Elt F) Λ₀ .tc) α} :
    iprop(records X κ ∗ cred (tallyAt (sendCell c e) () NS) ∗ owesE c 0 ∗ atPos ER (sendCell c e) 0 ∅ 0)
      ⊢ iprop(((owesE c 0 ∗ atPos ER (sendCell c e) 1 ∅ 0 ∗ sAny c e) -∗ wpB c (p ⟨⟩) Q)
          -∗ wpB c (.op (.waitDma2 sS src dst h1 h2) p) Q) := by
  subst hsS hdst
  iintro ⟨#HR, Hc, HO, Hat⟩ Hk
  unfold owesE
  icases HO with ⟨%W, HO⟩
  iapply (Rounds.wp_wait_rest_token 𝒱₀ ER (a2aRd X) (c : Thread nD τ) none (κ := κ (sendCell c e))
      (wpE_waitDma2_eq (src := src) (dst := ss e) 𝒱₀ (c : Thread nD τ) none Set.univ) (Set.mem_univ _) () (O := 0) (W := W) (R := 0) (m := 0) (T := ∅)
      ((Nat.zero_add _).trans (expect_send X c e).symm)) $$ [Hc HO Hat]
  · isplitr; · iapply (inv_send X κ c e); iexact HR
    isplitl [Hc]; · iexact Hc
    isplitl [HO]; · iexact HO
    isplitr; · rw [MayWait_zero]; iempintro
    iexact Hat
  iintro ⟨HO, Hat, -, Hpay⟩
  ihave Hp := (Entails.of_eq (rest_send X c e)) $$ Hpay
  iapply Hk
  isplitl [HO]; · iexists _; iexact HO
  isplitl [Hat]; · iexact Hat
  iexact Hp

/-- The wait for slot `s` to have been filled: it comes back at what landed. -/
theorem step_wait_recv (c : Dev nD) (s : Fin 3) (sS : DmaSem sig) (hsS : sS = recvS s)
    (src dst : Memref sig .tc .vmem S1024x1024 .bf16) (hdst : dst = cs s)
    {h1 : src.view.WordExact} {h2 : dst.view.WordExact}
    {α : Type} {Q : α → sProp 𝕄} {p : PUnit → Prog (TpuEff nD τ sig (Elt F) Λ₀ .tc) α} :
    iprop(records X κ ∗ cred (tallyAt (recvCell c s) () NS) ∗ owesE c 0 ∗ atPos ER (recvCell c s) 0 ∅ 0)
      ⊢ iprop(((owesE c 0 ∗ atPos ER (recvCell c s) 1 ∅ 0 ∗ cGot X c s) -∗ wpB c (p ⟨⟩) Q)
          -∗ wpB c (.op (.waitDma2 sS src dst h1 h2) p) Q) := by
  subst hsS hdst
  iintro ⟨#HR, Hc, HO, Hat⟩ Hk
  unfold owesE
  icases HO with ⟨%W, HO⟩
  iapply (Rounds.wp_wait_rest_token 𝒱₀ ER (a2aRd X) (c : Thread nD τ) none (κ := κ (recvCell c s))
      (wpE_waitDma2_eq (src := src) (dst := cs s) 𝒱₀ (c : Thread nD τ) none Set.univ) (Set.mem_univ _) () (O := 0) (W := W) (R := 0) (m := 0) (T := ∅)
      ((Nat.zero_add _).trans (expect_recv X c s).symm)) $$ [Hc HO Hat]
  · isplitr; · iapply (inv_recv X κ c s); iexact HR
    isplitl [Hc]; · iexact Hc
    isplitl [HO]; · iexact HO
    isplitr; · rw [MayWait_zero]; iempintro
    iexact Hat
  iintro ⟨HO, Hat, -, Hpay⟩
  ihave Hp := (Entails.of_eq (rest_recv X c s)) $$ Hpay
  iapply Hk
  isplitl [HO]; · iexists _; iexact HO
  isplitl [Hat]; · iexact Hat
  iexact Hp

/-- The block buffer's elements are all of them. -/
theorem chM_set : chM.view.set = Finset.univ := View.set_whole _

/-- After a copy of a whole block the block buffer holds it. -/
theorem copied (c : Dev nD) (fd : Buf (Elt F) ((c : Thread nD τ).loc cc0_scratch2)) (w : Vec F S1024x1024 .f32) :
    chM.view.write (Elt F) fd w Finset.univ = w := View.write_whole_univ _ _ _

/-- A local copy of a block of x into the block buffer, with its wait. -/
theorem step_local (c : Dev nD) (r : ℕ) (hr : r < 4) (src src' : Memref sig .tc .hbm S1024x1024 .f32) (hsrc : src = xs c (dOf r))
    (dst dst' : Memref sig .tc .vmem S1024x1024 .f32) (hdst : dst = chM) (hdst' : dst' = chM)
    (sL sL' : DmaSem sig) (hsL : sL = locS) (hsL' : sL' = locS) (O : CellTallies nD τ sig Unit) (hO : Above 0 O)
    {h1 : src.view.WordExact} {h2 : dst.view.WordExact} {h3 : DmaTarget.Typed (nD := nD) (τ := τ) (p := .tc) .hbm (.dma sL) (.here dst)}
    {h4 : src'.view.WordExact} {h5 : dst'.view.WordExact}
    {α : Type} {Q : α → sProp 𝕄} {p : PUnit → Prog (TpuEff nD τ sig (Elt F) Λ₀ .tc) α} :
    iprop(records X κ ∗ levAts L lv ∗ owesE c O ∗ (∃ f, hPts c f) ∗ xPts X c ∗ dutyTok ER (locCell c) r 0 ∗ atPos ER (locCell c) r ∅ 0 ∗ reached ER (locCell c) r)
      ⊢ iprop(((owesE c O ∗ hPts c (xrow X c (dOf r)) ∗ xPts X c ∗ atPos ER (locCell c) (r + 1) ∅ 0 ∗ reached ER (locCell c) (r + 1)) -∗ wpB c (p ⟨⟩) Q)
          -∗ wpB c (.op (.enqueueDma src (.here dst) (.dma sL) h1 h2 h3) fun _ => .op (.waitDma2 sL' src' dst' h4 h5) p) Q) := by
  subst hsrc hdst hdst' hsL hsL'
  iintro ⟨#HR, #Hlev, HO, ⟨%f, Hh⟩, Hx, Ht, Hat, #Hr⟩ Hk
  unfold owesE
  icases HO with ⟨%W, HO⟩
  ihave Hx' := (pointsTo_split_subset (f := X c) (q := fullShare) (Finset.subset_univ (xs c (dOf r)).view.set)).1 $$ Hx
  icases Hx' with ⟨Hx, Hrest⟩
  iapply (Rounds.wp_copy_pointsTo 𝒱₀ ER (a2aRd X) (c : Thread nD τ) none (src := xs c (dOf r)) (dst := chM) (sem := .dma locS) (q := fullShare)
      (fs := X c) (fd := f) (r := r) (d := 0) (κ := κ (locCell c))
      (by rw [duties_loc X c r hr]; exact Finset.mem_singleton_self _) () NL rfl (amount_loc X c r 0)
      (by rw [payload_loc]; unfold locPay; rw [copied c]; exact Entails.refl _)) $$ [Hh Hx Ht]
  · isplitr; · iapply (inv_loc X κ c); iexact HR
    isplitl [Hx]; · iexact Hx
    isplitl [Hh]; · rw [chM_set]; iexact Hh
    isplitl [Ht]; · iexact Ht
    iexact Hr
  iintro Hc
  iapply (Rounds.wp_wait_rest_token 𝒱₀ ER (a2aRd X) (c : Thread nD τ) none (κ := κ (locCell c))
      (wpE_waitDma2_eq (src := src') (dst := chM) 𝒱₀ (c : Thread nD τ) none Set.univ) (Set.mem_univ _) () (O := O) (W := W) (R := r) (m := 0) (T := ∅)
      ((Nat.zero_add _).trans (expect_loc X c r hr).symm)) $$ [Hc HO Hat]
  · isplitr; · iapply (inv_loc X κ c); iexact HR
    isplitl [Hc]; · iexact Hc
    isplitl [HO]; · iexact HO
    isplitr; · iapply (mayWait c (.dma locS) 0 (le_refl 0) O hO); iexact Hlev
    iexact Hat
  iintro ⟨HO, Hat, #Hr1, Hpay⟩
  ihave Hp := (Entails.of_eq (rest_loc X c r hr)) $$ Hpay
  unfold locPay
  icases Hp with ⟨Hh, Hx⟩
  iapply Hk
  isplitl [HO]; · iexists _; iexact HO
  isplitl [Hh]; · rw [chM_set]; iexact Hh
  isplitl [Hx Hrest]
  · iapply (pointsTo_split_subset (f := X c) (q := fullShare) (Finset.subset_univ (xs c (dOf r)).view.set)).2
    isplitl [Hx] <;> iassumption
  isplitl [Hat]; · iexact Hat
  iexact Hr1

end Cert.A2A

end
-- ==== Proof.Acc.lean ====
module

public import proofs.«01_k».proof.Proof.Steps

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal

variable {F : FTy → Type} [FloatOps F]

local notation "𝕄" => MT nD τ sig Unit (Elt F) ℕ UU ℕ

variable (X : (c : Dev nD) → Buf (Elt F) ((c : Thread nD τ).loc main_arg0)) (κ : GSem nD τ sig → ℕ)
-- The block of w that a device reads in a phase for a block of columns.
variable (B : (c : Dev nD) → ℕ → ℕ → Vec F S1024x1024 .f32)

/-! ## The accumulator -/

/-- The columns of block `j` lie inside the accumulator. -/
theorem slab_inb (j : Fin 8) : ∀ a, (![0, 1024 * j.val] : Fin 2 → ℕ) a + S1024x1024.size a ≤ S1024x8192.size a := by
  revert j; decide

/-- The columns of the accumulator that belong to block `j`. -/
abbrev rj (j : Fin 8) : Rect S1024x8192 := Rect.unit (s := S1024x8192) ![0, 1024 * j.val] S1024x1024.size (slab_inb j)

/-- What block `j` of the accumulator holds after phase `p`. -/
def partV (c : Dev nD) : ℕ → ℕ → Vec F S1024x1024 .f32
  | 0, j => Gen.k0_pay8 (chunkV X c 0) (B c 0 j)
  | p + 1, j => Gen.k0_pay1 (Gen.k0_pay7 (chunkV X c (p + 1)) (B c (p + 1) j)) (partV c p j)

/-- What the result's block `j` is. -/
def outV (c : Dev nD) (j : ℕ) : Vec F S1024x1024 .bf16 :=
  Gen.k0_pay2 (Gen.k0_pay7 (chunkV X c 3) (B c 3 j)) (partV X B c 2 j)

/-- Before point `n` every block written so far holds what its last phase left. -/
def accOK (c : Dev nD) (n : ℕ) (f : Buf (Elt F) ((c : Thread nD τ).loc cc0_scratch0)) : Prop :=
  ∀ (j : Fin 8) (p : ℕ), p < 3 → 8 * p + j.val < n → (n ≤ 8 * (p + 1) + j.val ∨ p = 2) → (accM.access (rj j)).read (Elt F) f = partV X B c p j.val

/-- An element is in block `j` of the accumulator exactly if its column is among the block's 1024. -/
theorem mem_rj (j : Fin 8) (i : S1024x8192.Idx) : i ∈ (rj j).set ↔ 1024 * j.val ≤ (i 1).val ∧ (i 1).val < 1024 * j.val + 1024 := by
  rw [Rect.mem_set_unit]
  constructor
  · intro h
    have h1 : 1024 * j.val ≤ (i 1).val ∧ (i 1).val < 1024 * j.val + 1024 := h 1
    exact h1
  · intro h a
    fin_cases a
    · show 0 ≤ (i 0).val ∧ (i 0).val < 0 + 1024
      have : (i 0).val < 1024 := (i 0).isLt
      exact ⟨Nat.zero_le _, by omega⟩
    · exact h

/-- Different column blocks of the accumulator share no element. -/
theorem rj_disjoint {j j' : Fin 8} (h : j ≠ j') : Disjoint (accM.access (rj j)).set (accM.access (rj j')).set := by
  rw [Finset.disjoint_left]
  intro i hi hi'
  have e1 : (accM.access (rj j)).set = (rj j).set := View.set_slice_whole cc0_scratch0 (rj j)
  have e2 : (accM.access (rj j')).set = (rj j').set := View.set_slice_whole cc0_scratch0 (rj j')
  rw [e1] at hi; rw [e2] at hi'
  have a := (mem_rj j i).mp hi
  have b := (mem_rj j' i).mp hi'
  exact h (Fin.ext (by omega))

/-- Writing a phase's partial sum into its block keeps the accumulator right up to the next point. -/
theorem acc_write (c : Dev nD) (p : ℕ) (hp : p < 3) (j : Fin 8) (f : Buf (Elt F) ((c : Thread nD τ).loc cc0_scratch0))
    (h : accOK X B c (8 * p + j.val) f) :
    accOK X B c (8 * p + j.val + 1) ((accM.access (rj j)).write (Elt F) f (partV X B c p j.val) Finset.univ) := by
  intro j' p' hp' h1 h2
  have hj := j.isLt
  have hj' := j'.isLt
  by_cases e : j' = j
  · subst e
    obtain rfl : p' = p := by omega
    exact View.read_write_univ _ _
  · have e' : j'.val ≠ j.val := fun h => e (Fin.ext h)
    rw [View.read_slice_write_slice_of_disjoint _ _ _ _ _ (rj_disjoint e)]
    exact h j' p' hp' (by omega) (by omega)

/-- A block read in the phase after `p` holds the partial sum of phase `p`. -/
theorem acc_read (c : Dev nD) (p : ℕ) (hp : p < 3) (j : Fin 8) (f : Buf (Elt F) ((c : Thread nD τ).loc cc0_scratch0))
    (h : accOK X B c (8 * (p + 1) + j.val) f) : (accM.access (rj j)).read (Elt F) f = partV X B c p j.val :=
  h j p hp (by omega) (Or.inl (le_refl _))

/-- In the last phase, which writes nothing to it, the accumulator stays right. -/
theorem acc_keep (c : Dev nD) (n : ℕ) (hn : 24 ≤ n) (f : Buf (Elt F) ((c : Thread nD τ).loc cc0_scratch0))
    (h : accOK X B c n f) : accOK X B c (n + 1) f := by
  intro j p hp h1 h2
  exact h j p hp (by have := j.isLt; omega) (by omega)

/-- The accumulator before point `n`. -/
def accSt (c : Dev nD) (n : ℕ) : sProp 𝕄 := iprop(∃ f, ⌜accOK X B c n f⌝ ∗ ((c : Thread nD τ).loc cc0_scratch0 ↦{fullShare} f))

/-- Phase 0 writes a block. -/
theorem step_put (c : Dev nD) (n : ℕ) (j : Fin 8) (hn : n = j.val) (off : Fin 2 → ℕ) (ho : off = ![0, 1024 * j.val])
    (hb hb' : ∀ a, off a + S1024x1024.size a ≤ S1024x8192.size a) (v : Vec F S1024x1024 .f32) (hv : v = partV X B c 0 j.val)
    {hl : accM.view.LoadsAt (Rect.unit (s := S1024x8192) off S1024x1024.size hb).toLoadRect}
    {hx : (accM.access (Rect.unit (s := S1024x8192) off S1024x1024.size hb')).Stores Finset.univ} {hm}
    {α : Type} {Q : α → sProp 𝕄} {p : PUnit → Prog (TpuEff nD τ sig (Elt F) Λ₀ .tc) α} :
    (accSt X B c n : sProp 𝕄)
      ⊢ iprop((accSt X B c (n + 1) -∗ wpB c (p ⟨⟩) Q)
          -∗ wpB c (.op (.load accM (Rect.unit (s := S1024x8192) off S1024x1024.size hb).toLoadRect hl) fun _ =>
              .op (.store accM (Rect.unit (s := S1024x8192) off S1024x1024.size hb') v Finset.univ hx hm) p) Q) := by
  subst ho hv hn
  unfold accSt
  iintro ⟨%f, %hf, Ha⟩ Hk
  iapply (wp_load_rect 𝒱₀ (c : Thread nD τ) none Set.univ (m := accM) (r := rj j) (Finset.subset_univ _)) $$ Ha; iintro Ha
  iapply (wp_store 𝒱₀ (c : Thread nD τ) none Set.univ (m := accM) (r := rj j) (Mk := Finset.univ) (Finset.subset_univ _)) $$ Ha; iintro Ha
  iapply Hk
  iexists _; isplitr
  swap; · iexact Ha
  ipureintro
  have := acc_write X B c 0 (by decide) j f (by rwa [Nat.mul_zero, Nat.zero_add])
  rwa [Nat.mul_zero, Nat.zero_add] at this

/-- Phases 1 and 2 add to a block. -/
theorem step_add (c : Dev nD) (n p : ℕ) (hp : p + 1 < 3) (j : Fin 8) (hn : n = 8 * (p + 1) + j.val) (off : Fin 2 → ℕ) (ho : off = ![0, 1024 * j.val])
    (hb hb' hb'' : ∀ a, off a + S1024x1024.size a ≤ S1024x8192.size a) (v : Vec F S1024x1024 .f32)
    (hv : v = Gen.k0_pay7 (chunkV X c (p + 1)) (B c (p + 1) j.val))
    {hl : accM.view.LoadsAt (Rect.unit (s := S1024x8192) off S1024x1024.size hb).toLoadRect}
    {hl' : accM.view.LoadsAt (Rect.unit (s := S1024x8192) off S1024x1024.size hb').toLoadRect}
    {hx : (accM.access (Rect.unit (s := S1024x8192) off S1024x1024.size hb'')).Stores Finset.univ} {hm}
    {α : Type} {Q : α → sProp 𝕄} {k : PUnit → Prog (TpuEff nD τ sig (Elt F) Λ₀ .tc) α} :
    (accSt X B c n : sProp 𝕄)
      ⊢ iprop((accSt X B c (n + 1) -∗ wpB c (k ⟨⟩) Q)
          -∗ wpB c (.op (.load accM (Rect.unit (s := S1024x8192) off S1024x1024.size hb).toLoadRect hl) fun v40 =>
              .op (.load accM (Rect.unit (s := S1024x8192) off S1024x1024.size hb').toLoadRect hl') fun _ =>
              .op (.store accM (Rect.unit (s := S1024x8192) off S1024x1024.size hb'') (Gen.k0_pay1 v v40) Finset.univ hx hm) k) Q) := by
  subst ho hv hn
  unfold accSt
  iintro ⟨%f, %hf, Ha⟩ Hk
  iapply (wp_load_rect 𝒱₀ (c : Thread nD τ) none Set.univ (m := accM) (r := rj j) (Finset.subset_univ _)) $$ Ha; iintro Ha
  rw [acc_read X B c p (by omega) j f hf]
  iapply (wp_load_rect 𝒱₀ (c : Thread nD τ) none Set.univ (m := accM) (r := rj j) (Finset.subset_univ _)) $$ Ha; iintro Ha
  iapply (wp_store 𝒱₀ (c : Thread nD τ) none Set.univ (m := accM) (r := rj j) (Mk := Finset.univ) (Finset.subset_univ _)) $$ Ha; iintro Ha
  iapply Hk
  iexists _; isplitr
  swap; · iexact Ha
  ipureintro
  exact acc_write X B c (p + 1) hp j f hf

/-! ## Whole-block loads and stores of a staging buffer -/

/-- The offset that the body prints for a whole block is zero on both axes. -/
theorem z2 : (![0, 0] : Fin 2 → ℕ) = fun _ => 0 := funext fun a => by fin_cases a <;> rfl

/-- A whole block at offset zero is inside itself. -/
theorem z2_inb : ∀ a, (![0, 0] : Fin 2 → ℕ) a + S1024x1024.size a ≤ S1024x1024.size a := by decide

abbrev rz : Rect S1024x1024 := Rect.unit (s := S1024x1024) ![0, 0] S1024x1024.size z2_inb

/-- Reading the whole of a block through its access is reading the block. -/
theorem read_rz {sp : Space} {e : EltTy} (a : Memref sig .tc sp S1024x1024 e) (f : a.view.ty.Contents (Elt F)) :
    (a.access rz).read (Elt F) f = a.view.read (Elt F) f := by
  have h : ∀ (off : Fin 2 → ℕ) (h0 : off = fun _ => 0) (hb : ∀ a, off a + S1024x1024.size a ≤ S1024x1024.size a),
      (a.access (Rect.unit (s := S1024x1024) off S1024x1024.size hb)).read (Elt F) f = a.view.read (Elt F) f := by
    intro off h0 hb
    subst h0
    funext x
    show a.view.read (Elt F) f ((Rect.whole S1024x1024).emb x) = a.view.read (Elt F) f x
    rw [Rect.emb_whole_apply]
  exact h _ z2 z2_inb

/-- Phase 3 makes the result's block. -/
theorem step_out (c : Dev nD) (n : ℕ) (j : Fin 8) (hn : n = 24 + j.val) (off : Fin 2 → ℕ) (ho : off = ![0, 1024 * j.val])
    (hb : ∀ a, off a + S1024x1024.size a ≤ S1024x8192.size a) (v : Vec F S1024x1024 .f32)
    (hv : v = Gen.k0_pay7 (chunkV X c 3) (B c 3 j.val)) (a : Memref sig .tc .vmem S1024x1024 .bf16) (d : Vec F S1024x1024 .bf16)
    (hz hz' : ∀ a, (![0, 0] : Fin 2 → ℕ) a + S1024x1024.size a ≤ S1024x1024.size a)
    {hl : accM.view.LoadsAt (Rect.unit (s := S1024x8192) off S1024x1024.size hb).toLoadRect}
    {hl' : a.view.LoadsAt (Rect.unit (s := S1024x1024) ![0, 0] S1024x1024.size hz).toLoadRect}
    {hx : (a.access (Rect.unit (s := S1024x1024) ![0, 0] S1024x1024.size hz')).Stores Finset.univ} {hm}
    {α : Type} {Q : α → sProp 𝕄} {k : PUnit → Prog (TpuEff nD τ sig (Elt F) Λ₀ .tc) α} :
    iprop(accSt X B c n ∗ owns (c : Thread nD τ) a fullShare d : sProp 𝕄)
      ⊢ iprop(((accSt X B c (n + 1) ∗ owns (c : Thread nD τ) a fullShare (outV X B c j.val)) -∗ wpB c (k ⟨⟩) Q)
          -∗ wpB c (.op (.load accM (Rect.unit (s := S1024x8192) off S1024x1024.size hb).toLoadRect hl) fun v40 =>
              .op (.load a (Rect.unit (s := S1024x1024) ![0, 0] S1024x1024.size hz).toLoadRect hl') fun _ =>
              .op (.store a (Rect.unit (s := S1024x1024) ![0, 0] S1024x1024.size hz') (Gen.k0_pay2 v v40) Finset.univ hx hm) k) Q) := by
  subst ho hv hn
  unfold accSt owns
  iintro ⟨⟨%f, %hf, Ha⟩, ⟨%g, %hg, Ho⟩⟩ Hk
  iapply (wp_load_rect 𝒱₀ (c : Thread nD τ) none Set.univ (m := accM) (r := rj j) (Finset.subset_univ _)) $$ Ha; iintro Ha
  rw [acc_read X B c 2 (by omega) j f hf]
  iapply (wp_load_rect 𝒱₀ (c : Thread nD τ) none Set.univ (m := a) (r := rz) (View.set_slice_subset _ _)) $$ Ho; iintro Ho
  iapply (wp_store 𝒱₀ (c : Thread nD τ) none Set.univ (m := a) (r := rz) (Mk := Finset.univ) (View.set_slice_subset _ _)) $$ Ho; iintro Ho
  iapply Hk
  isplitl [Ha]
  · iexists f; isplitr
    swap; · iexact Ha
    ipureintro; exact acc_keep X B c _ (by omega) f hf
  iexists _; isplitr
  swap; · iexact Ho
  ipureintro
  rw [← read_rz]
  exact View.read_write_univ _ _

/-- The two operands are loaded. -/
theorem step_loads (c : Dev nD) (h : Vec F S1024x1024 .f32) (a : Memref sig .tc .vmem S1024x1024 .f32) (q : PosShare TreeShare) (w : Vec F S1024x1024 .f32)
    (hz hz' : ∀ a, (![0, 0] : Fin 2 → ℕ) a + S1024x1024.size a ≤ S1024x1024.size a)
    {hl : chM.view.LoadsAt (Rect.unit (s := S1024x1024) ![0, 0] S1024x1024.size hz).toLoadRect}
    {hl' : a.view.LoadsAt (Rect.unit (s := S1024x1024) ![0, 0] S1024x1024.size hz').toLoadRect}
    {α : Type} {Q : α → sProp 𝕄} {k : Vec F S1024x1024 .f32 → Vec F S1024x1024 .f32 → Prog (TpuEff nD τ sig (Elt F) Λ₀ .tc) α} :
    iprop(hPts c h ∗ owns (c : Thread nD τ) a q w : sProp 𝕄)
      ⊢ iprop(((hPts c h ∗ owns (c : Thread nD τ) a q w) -∗ wpB c (k h w) Q)
          -∗ wpB c (.op (.load chM (Rect.unit (s := S1024x1024) ![0, 0] S1024x1024.size hz).toLoadRect hl) fun v19 =>
              .op (.load a (Rect.unit (s := S1024x1024) ![0, 0] S1024x1024.size hz').toLoadRect hl') fun v20 => k v19 v20) Q) := by
  unfold owns
  iintro ⟨Hh, ⟨%g, %hg, Ho⟩⟩ Hk
  subst hg
  iapply (wp_load_rect 𝒱₀ (c : Thread nD τ) none Set.univ (m := chM) (r := rz) (Finset.subset_univ _)) $$ Hh; iintro Hh
  iapply (wp_load_rect 𝒱₀ (c : Thread nD τ) none Set.univ (m := a) (r := rz) (View.set_slice_subset _ _)) $$ Ho; iintro Ho
  rw [read_rz a, read_rz chM, show chM.view.read (Elt F) h = h from View.read_whole _ _]
  iapply Hk
  isplitl [Hh]; · iexact Hh
  iexists g; isplitr
  · ipureintro; rfl
  iexact Ho

/-- A received slot is unpacked into the block buffer. -/
theorem step_get (c : Dev nD) (s : Fin 3) (off : Fin 3 → ℕ) (ho : off = ![s.val, 0, 0])
    (hb : ∀ a, off a + S1x1024x1024.size a ≤ S3x1024x1024.size a)
    (hz hz' : ∀ a, (![0, 0] : Fin 2 → ℕ) a + S1024x1024.size a ≤ S1024x1024.size a)
    {hl : commM.view.LoadsAt (Rect.unit (s := S3x1024x1024) off S1x1024x1024.size hb).toLoadRect}
    {hl' : chM.view.LoadsAt (Rect.unit (s := S1024x1024) ![0, 0] S1024x1024.size hz).toLoadRect}
    {hx : (chM.access (Rect.unit (s := S1024x1024) ![0, 0] S1024x1024.size hz')).Stores Finset.univ} {hm}
    {α : Type} {Q : α → sProp 𝕄} {k : PUnit → Prog (TpuEff nD τ sig (Elt F) Λ₀ .tc) α} :
    iprop(cGot X c s ∗ (∃ f, hPts c f) : sProp 𝕄)
      ⊢ iprop(((cAny c s ∗ hPts c (Gen.k0_pay6 (commW X c s))) -∗ wpB c (k ⟨⟩) Q)
          -∗ wpB c (.op (.load commM (Rect.unit (s := S3x1024x1024) off S1x1024x1024.size hb).toLoadRect hl) fun v48 =>
              .op (.load chM (Rect.unit (s := S1024x1024) ![0, 0] S1024x1024.size hz).toLoadRect hl') fun _ =>
              .op (.store chM (Rect.unit (s := S1024x1024) ![0, 0] S1024x1024.size hz') (Gen.k0_pay6 v48) Finset.univ hx hm) k) Q) := by
  subst ho
  unfold cGot cAny
  iintro ⟨⟨%f, %hf, Hc⟩, ⟨%g, Hh⟩⟩ Hk
  iapply (wp_load_rect 𝒱₀ (c : Thread nD τ) none Set.univ (m := commM) (r := rs s) (Finset.subset_of_eq (cs_set s).symm)) $$ Hc; iintro Hc
  rw [hf]
  iapply (wp_load_rect 𝒱₀ (c : Thread nD τ) none Set.univ (m := chM) (r := rz) (Finset.subset_univ _)) $$ Hh; iintro Hh
  iapply (wp_store 𝒱₀ (c : Thread nD τ) none Set.univ (m := chM) (r := rz) (Mk := Finset.univ) (Finset.subset_univ _)) $$ Hh; iintro Hh
  rw [show (chM.access rz).write (Elt F) g (Gen.k0_pay6 (commW X c s)) Finset.univ = Gen.k0_pay6 (commW X c s) from
    Memref.write_access_unit_zero_univ (Elt F) cc0_scratch2 z2 z2_inb g _]
  iapply Hk
  isplitl [Hc]
  · iexists f; iexact Hc
  iexact Hh

/-- A block is packed into a slot of the send buffer. -/
theorem step_fill (c : Dev nD) (e : Fin 3) (h : Vec F S1024x1024 .f32) (pay : Vec F S1024x1024 .f32 → Vec F S1x1024x1024 .bf16)
    (off : Fin 3 → ℕ) (ho : off = ![e.val, 0, 0])
    (hb hb' : ∀ a, off a + S1x1024x1024.size a ≤ S3x1024x1024.size a)
    (hz : ∀ a, (![0, 0] : Fin 2 → ℕ) a + S1024x1024.size a ≤ S1024x1024.size a)
    {hl : chM.view.LoadsAt (Rect.unit (s := S1024x1024) ![0, 0] S1024x1024.size hz).toLoadRect}
    {hl' : sendM.view.LoadsAt (Rect.unit (s := S3x1024x1024) off S1x1024x1024.size hb).toLoadRect}
    {hx : (sendM.access (Rect.unit (s := S3x1024x1024) off S1x1024x1024.size hb')).Stores Finset.univ} {hm}
    {α : Type} {Q : α → sProp 𝕄} {k : PUnit → Prog (TpuEff nD τ sig (Elt F) Λ₀ .tc) α} :
    iprop(hPts c h ∗ sAny c e : sProp 𝕄)
      ⊢ iprop((∀ f, ⌜(sendM.access (rs e)).read (Elt F) f = pay h⌝ -∗ (hPts c h ∗ sPts c e f) -∗ wpB c (k ⟨⟩) Q)
          -∗ wpB c (.op (.load chM (Rect.unit (s := S1024x1024) ![0, 0] S1024x1024.size hz).toLoadRect hl) fun v93 =>
              .op (.load sendM (Rect.unit (s := S3x1024x1024) off S1x1024x1024.size hb).toLoadRect hl') fun _ =>
              .op (.store sendM (Rect.unit (s := S3x1024x1024) off S1x1024x1024.size hb') (pay v93) Finset.univ hx hm) k) Q) := by
  subst ho
  unfold sAny
  iintro ⟨Hh, ⟨%f, Hs⟩⟩ Hk
  iapply (wp_load_rect 𝒱₀ (c : Thread nD τ) none Set.univ (m := chM) (r := rz) (Finset.subset_univ _)) $$ Hh; iintro Hh
  rw [read_rz chM, show chM.view.read (Elt F) h = h from View.read_whole _ _]
  iapply (wp_load_rect 𝒱₀ (c : Thread nD τ) none Set.univ (m := sendM) (r := rs e) (Finset.subset_of_eq (ss_set e).symm)) $$ Hs; iintro Hs
  iapply (wp_store 𝒱₀ (c : Thread nD τ) none Set.univ (m := sendM) (r := rs e) (Mk := Finset.univ) (Finset.subset_of_eq (ss_set e).symm)) $$ Hs; iintro Hs
  iapply Hk $$ %((sendM.access (rs e)).write (Elt F) f (pay h) Finset.univ)
  · ipureintro; exact View.read_write_univ _ _
  isplitl [Hh]; · iexact Hh
  iexact Hs

end Cert.A2A

end
-- ==== Proof.State.lean ====
module

public import proofs.«01_k».proof.Proof.Acc

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal

variable {F : FTy → Type} [FloatOps F]

local notation "𝕄" => MT nD τ sig Unit (Elt F) ℕ UU ℕ

variable (X : (c : Dev nD) → Buf (Elt F) ((c : Thread nD τ).loc main_arg0)) (κ : GSem nD τ sig → ℕ)
variable (B : (c : Dev nD) → ℕ → ℕ → Vec F S1024x1024 .f32)

/-! ## The table's words -/

/-- Device `c`'s table. -/
abbrev tPts (c : Dev nD) : sProp 𝕄 := (c : Thread nD τ).loc main_v10 ↦{fullShare} (tbl c : Buf (Elt F) ((c : Thread nD τ).loc main_v10))

/-- The slot the table names at a point. -/
def sl (i : grid0.Coords) : Fin 3 := if (i 0).val = 0 then 0 else slotOf (i 0).val

/-- The word read first from the table is the device's number. -/
theorem tbl_word0 (c : Dev nD) (hb : ∀ a, (![0, 0] : Fin 2 → ℕ) a + S1x1.size a ≤ S2x4.size a) (x : (Rect.unit (s := S2x4) ![0, 0] S1x1.size hb).shape.Idx) :
    (tM.access (Rect.unit (s := S2x4) ![0, 0] S1x1.size hb)).read (Elt F) (tbl c : Buf (Elt F) ((c : Thread nD τ).loc main_v10)) x = wrd c := by
  have h0 : (x 0).val = 0 := by have : (x 0).val < 1 := (x 0).isLt; omega
  have h1 : (x 1).val = 0 := by have : (x 1).val < 1 := (x 1).isLt; omega
  show tbl c ((Rect.unit (s := S2x4) ![0, 0] S1x1.size hb).emb x) = _
  have e0 : (((Rect.unit (s := S2x4) ![0, 0] S1x1.size hb).emb x) 0).val = 0 := by
    rw [Rect.emb_apply]; show 0 + 1 * (x 0).val = 0; omega
  have e1 : (((Rect.unit (s := S2x4) ![0, 0] S1x1.size hb).emb x) 1).val = 0 := by
    rw [Rect.emb_apply]; show 0 + 1 * (x 1).val = 0; omega
  unfold tbl
  rw [if_pos e0, e1]
  revert c; decide

/-- The word read next from the table is the slot of the phase. -/
theorem tbl_word1 (c : Dev nD) (i : grid0.Coords) (hb : ∀ a, k0_off2 i a + S1x1.size a ≤ S2x4.size a) (x : (Rect.unit (s := S2x4) (k0_off2 i) S1x1.size hb).shape.Idx) :
    (tM.access (Rect.unit (s := S2x4) (k0_off2 i) S1x1.size hb)).read (Elt F) (tbl c : Buf (Elt F) ((c : Thread nD τ).loc main_v10)) x = swrd (sl i) := by
  have h0 : (x 0).val = 0 := by have : (x 0).val < 1 := (x 0).isLt; omega
  have h1 : (x 1).val = 0 := by have : (x 1).val < 1 := (x 1).isLt; omega
  show tbl c ((Rect.unit (s := S2x4) (k0_off2 i) S1x1.size hb).emb x) = _
  have e0 : (((Rect.unit (s := S2x4) (k0_off2 i) S1x1.size hb).emb x) 0).val = 1 := by
    rw [Rect.emb_apply]; show k0_off2 i 0 + 1 * (x 0).val = 1; rw [h0, show k0_off2 i 0 = 1 from congrFun (Gen.k0_off2_eq i) 0]
  have e1 : (((Rect.unit (s := S2x4) (k0_off2 i) S1x1.size hb).emb x) 1).val = (i 0).val := by
    rw [Rect.emb_apply]; show k0_off2 i 1 + 1 * (x 1).val = _; rw [h1, show k0_off2 i 1 = (i 0).val from congrFun (Gen.k0_off2_eq i) 1]; omega
  unfold tbl
  rw [if_neg (by omega), e1]
  unfold sl
  generalize i 0 = q
  revert q; decide

/-! ## What a device holds between points -/

/-- The resources of send slot `e` before its copy is started. -/
abbrev sendTok (c : Dev nD) (e s : Fin 3) : sProp 𝕄 :=
  iprop(atPos ER (sendCell c e) 0 ∅ 0 ∗ reached ER (sendCell c e) 0 ∗ dutyTok ER (sendCell c e) 0 0 ∗ dutyTok ER (recvCell (sh c (e.val + 1)) s) 0 0)
/-- A copy from send slot `e` is under way. -/
abbrev sentTok (c : Dev nD) (e : Fin 3) : sProp 𝕄 := iprop(atPos ER (sendCell c e) 0 ∅ 0 ∗ cred (tallyAt (sendCell c e) () NS))
/-- Slot `s` of the receive buffer is still to be waited for. -/
abbrev dueTok (c : Dev nD) (s : Fin 3) : sProp 𝕄 := iprop(atPos ER (recvCell c s) 0 ∅ 0 ∗ cred (tallyAt (recvCell c s) () NS))
/-- Slot `s` of the receive buffer has been received and read. -/
abbrev gotTok (c : Dev nD) (s : Fin 3) : sProp 𝕄 := iprop(atPos ER (recvCell c s) 1 ∅ 0 ∗ cAny c s)
/-- The chunk buffer with any contents. -/
abbrev hAny (c : Dev nD) : sProp 𝕄 := iprop(∃ f, hPts c f)

/-- Before the first point. -/
abbrev St0 (c : Dev nD) : sProp 𝕄 :=
  iprop(hAny c ∗ xPts X c ∗ (cAny c 0 ∗ reached ER (recvCell c 0) 0) ∗ (cAny c 1 ∗ reached ER (recvCell c 1) 0) ∗ (cAny c 2 ∗ reached ER (recvCell c 2) 0)
    ∗ sAny c 0 ∗ sAny c 1 ∗ sAny c 2
    ∗ (atPos ER (barCell c) 0 ∅ 0 ∗ cred (tallyAt (barCell c) () 3))
    ∗ dutyTok ER (barCell (sh c 1)) 0 0 ∗ dutyTok ER (barCell (sh c 2)) 0 1 ∗ dutyTok ER (barCell (sh c 3)) 0 2
    ∗ sendTok c 0 2 ∗ sendTok c 1 1 ∗ sendTok c 2 0
    ∗ (atPos ER (locCell c) 0 ∅ 0 ∗ reached ER (locCell c) 0)
    ∗ dutyTok ER (locCell c) 0 0 ∗ dutyTok ER (locCell c) 1 0 ∗ dutyTok ER (locCell c) 2 0 ∗ dutyTok ER (locCell c) 3 0
    ∗ dueTok c 0 ∗ dueTok c 1 ∗ dueTok c 2)
/-- In the phase of the device's own block. -/
abbrev St1 (c : Dev nD) : sProp 𝕄 :=
  iprop(hPts c (chunkV X c 0) ∗ xPts X c ∗ semVal (barCell c) 0 ∗ sentTok c 0 ∗ sentTok c 2 ∗ (sAny c 1 ∗ bp (sh c 2) 1 ∗ sendTok c 1 1)
    ∗ (atPos ER (locCell c) 3 ∅ 0 ∗ reached ER (locCell c) 3 ∗ dutyTok ER (locCell c) 3 0)
    ∗ dueTok c 0 ∗ dueTok c 1 ∗ dueTok c 2)
/-- In the phase of the first block received. -/
abbrev St2 (c : Dev nD) : sProp 𝕄 :=
  iprop(hPts c (chunkV X c 1) ∗ xPts X c ∗ semVal (barCell c) 0 ∗ sentTok c 0 ∗ sentTok c 1 ∗ sentTok c 2 ∗ atPos ER (locCell c) 4 ∅ 0
    ∗ gotTok c 0 ∗ dueTok c 1 ∗ dueTok c 2)
/-- In the phase of the second block received. -/
abbrev St3 (c : Dev nD) : sProp 𝕄 :=
  iprop(hPts c (chunkV X c 2) ∗ xPts X c ∗ semVal (barCell c) 0 ∗ sentTok c 0 ∗ sentTok c 1 ∗ sentTok c 2 ∗ atPos ER (locCell c) 4 ∅ 0
    ∗ gotTok c 0 ∗ dueTok c 1 ∗ gotTok c 2)
/-- In the phase of the third block received. -/
abbrev St4 (c : Dev nD) : sProp 𝕄 :=
  iprop(hPts c (chunkV X c 3) ∗ xPts X c ∗ semVal (barCell c) 0 ∗ sentTok c 0 ∗ sentTok c 1 ∗ sentTok c 2 ∗ atPos ER (locCell c) 4 ∅ 0
    ∗ gotTok c 0 ∗ gotTok c 1 ∗ gotTok c 2)
/-- After the last point: every counter at zero, every buffer back. -/
abbrev St5 (c : Dev nD) : sProp 𝕄 :=
  iprop(hAny c ∗ xPts X c ∗ semVal (barCell c) 0
    ∗ (semVal (sendCell c 0) 0 ∗ semVal (sendCell c 1) 0 ∗ semVal (sendCell c 2) 0)
    ∗ (semVal (recvCell c 0) 0 ∗ semVal (recvCell c 1) 0 ∗ semVal (recvCell c 2) 0) ∗ semVal (locCell c) 0
    ∗ (cAny c 0 ∗ cAny c 1 ∗ cAny c 2) ∗ (sAny c 0 ∗ sAny c 1 ∗ sAny c 2))

/-- The part of the state that turns on the phase, before point `n`. -/
def St (c : Dev nD) (n : ℕ) : sProp 𝕄 :=
  if n = 0 then St0 X c else if n ≤ 8 then St1 X c else if n ≤ 16 then St2 X c else if n ≤ 24 then St3 X c else if n ≤ 31 then St4 X c else St5 X c

/-- What a device owes the others before point `n`. -/
def owedAt (c : Dev nD) (n : ℕ) : CellTallies nD τ sig Unit := if n = 0 then O₀ c else if n ≤ 8 then OA c else 0

/-- What a device holds before point `n`. -/
abbrev Phi (c : Dev nD) (n : ℕ) : sProp 𝕄 := iprop(∃ κ, records X κ ∗ levAts L lv ∗ tPts c ∗ accSt X B c n ∗ St X c n)

/-- The sends are waited for at the last point. -/
theorem cond7_iff : ∀ i : grid0.Coords,
    Scalar.cmpi .ne (Scalar.extui (Scalar.andi (Scalar.cmpi .eq (BitVec.ofNat 32 (i 0).val) 3#32) (Scalar.cmpi .eq (BitVec.ofNat 32 (i 1).val) 7#32))) 0#32 = 1#1
      ↔ (i 0).val = 3 ∧ (i 1).val = 7 := by decide +kernel

end Cert.A2A
end
-- ==== Proof.Body.lean ====
module

public import proofs.«01_k».proof.Proof.State

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal

variable {F : FTy → Type} [FloatOps F]

local notation "𝕄" => MT nD τ sig Unit (Elt F) ℕ UU ℕ

variable (X : (c : Dev nD) → Buf (Elt F) ((c : Thread nD τ).loc main_arg0)) (κ : GSem nD τ sig → ℕ)
variable (B : (c : Dev nD) → ℕ → ℕ → Vec F S1024x1024 .f32)

/-- The body of the kernel at a grid point, on two stage buffers. -/
abbrev bodyAt (i : grid0.Coords) (a4 : Memref sig .tc .vmem S1024x1024 .f32) (h4 : a4.IsWhole) (a5 : Memref sig .tc .vmem S1024x1024 .bf16) (h5 : a5.IsWhole) :
    Prog (TpuEff nD τ sig (Elt F) Λ₀ .tc) PUnit :=
  cc0_body (F := F) i tM (Memref.isWhole_whole _) xM (Memref.isWhole_whole _) a4 h4 a5 h5 accM (Memref.isWhole_whole _) commM (Memref.isWhole_whole _)
    chM (Memref.isWhole_whole _) sendM (Memref.isWhole_whole _) cc0_scratch4 cc0_scratch5 cc0_scratch6

/-- The word read first: the device's own number, with the facts assumed of it. -/
theorem step_head0 (c : Dev nD) (i : grid0.Coords)
    {hl : tM.view.LoadsAt (Rect.unit (s := S2x4) ![0, 0] S1x1.size Gen.inb_S2x4_S1x1_0_0).toLoadRect}
    {α : Type} {Q : α → sProp 𝕄}
    {g : (Rect.unit (s := S2x4) ![0, 0] S1x1.size Gen.inb_S2x4_S1x1_0_0).shape.Idx}
    {k : (x : (Rect.unit (s := S2x4) ![0, 0] S1x1.size Gen.inb_S2x4_S1x1_0_0).shape.Idx → BitVec 32) → PLift (k0_chk1 i (x g)) → Prog (TpuEff nD τ sig (Elt F) Λ₀ .tc) α} :
    (tPts c : sProp 𝕄)
      ⊢ iprop((tPts c -∗ wpB c (k (fun _ => wrd c) ⟨chk1 i c⟩) Q)
          -∗ wpB c (.op (.load tM (Rect.unit (s := S2x4) ![0, 0] S1x1.size Gen.inb_S2x4_S1x1_0_0).toLoadRect hl)
              fun (x : (Rect.unit (s := S2x4) ![0, 0] S1x1.size Gen.inb_S2x4_S1x1_0_0).shape.Idx → BitVec 32) =>
              .op (.assume (k0_chk1 i (x g)) (k0_chk1.dec i (x g))) fun a => k x a) Q) := by
  iintro Ht Hk
  iapply (wp_load_rect 𝒱₀ (c : Thread nD τ) none Set.univ (m := tM) (r := Rect.unit (s := S2x4) ![0, 0] S1x1.size Gen.inb_S2x4_S1x1_0_0) (Finset.subset_univ _)) $$ Ht; iintro Ht
  rw [show (tM.access (Rect.unit (s := S2x4) ![0, 0] S1x1.size Gen.inb_S2x4_S1x1_0_0)).read (Elt F) (tbl c : Buf (Elt F) ((c : Thread nD τ).loc main_v10)) = fun _ => wrd c from
    funext fun x => tbl_word0 c _ x]
  rw [wp_assume_of _ _ _ _ (d := k0_chk1.dec i _) (chk1 i c)]
  iapply Hk; iexact Ht

/-- The word read second: the slot of the phase, with the facts assumed of it. -/
theorem step_head1 (c : Dev nD) (i : grid0.Coords)
    {hb : ∀ a, k0_off2 i a + S1x1.size a ≤ S2x4.size a}
    {hl : tM.view.LoadsAt (Rect.unit (s := S2x4) (k0_off2 i) S1x1.size hb).toLoadRect}
    {α : Type} {Q : α → sProp 𝕄}
    {g : (Rect.unit (s := S2x4) (k0_off2 i) S1x1.size hb).shape.Idx}
    {k : (x : (Rect.unit (s := S2x4) (k0_off2 i) S1x1.size hb).shape.Idx → BitVec 32) → PLift (k0_chk2 i (x g)) → Prog (TpuEff nD τ sig (Elt F) Λ₀ .tc) α} :
    (tPts c : sProp 𝕄)
      ⊢ iprop((tPts c -∗ wpB c (k (fun _ => swrd (sl i)) ⟨chk2 i (sl i)⟩) Q)
          -∗ wpB c (.op (.load tM (Rect.unit (s := S2x4) (k0_off2 i) S1x1.size hb).toLoadRect hl)
              fun (x : (Rect.unit (s := S2x4) (k0_off2 i) S1x1.size hb).shape.Idx → BitVec 32) =>
              .op (.assume (k0_chk2 i (x g)) (k0_chk2.dec i (x g))) fun a => k x a) Q) := by
  iintro Ht Hk
  iapply (wp_load_rect 𝒱₀ (c : Thread nD τ) none Set.univ (m := tM) (r := Rect.unit (s := S2x4) (k0_off2 i) S1x1.size hb) (Finset.subset_univ _)) $$ Ht; iintro Ht
  rw [show (tM.access (Rect.unit (s := S2x4) (k0_off2 i) S1x1.size hb)).read (Elt F) (tbl c : Buf (Elt F) ((c : Thread nD τ).loc main_v10)) = fun _ => swrd (sl i) from
    funext fun x => tbl_word1 c i _ x]
  rw [wp_assume_of _ _ _ _ (d := k0_chk2.dec i _) (chk2 i (sl i))]
  iapply Hk; iexact Ht

/-- The barrier's semaphore is not the local copies'. -/
theorem bar_ne (c : Dev nD) : (barCell c).2 ≠ .dma locS := by show (SemLoc.reg barS : SemLoc sig) ≠ .dma locS; decide
/-- A send semaphore is not the local copies'. -/
theorem send_ne (c : Dev nD) (e : Fin 3) : (sendCell c e).2 ≠ .dma locS := by
  show (SemLoc.dma (sendS e) : SemLoc sig) ≠ .dma locS; revert e; decide
/-- A receive semaphore is not the local copies'. -/
theorem recv_ne (c : Dev nD) (e : Fin 3) : (recvCell c e).2 ≠ .dma locS := by
  show (SemLoc.dma (recvS e) : SemLoc sig) ≠ .dma locS; revert e; decide

/-- The receive semaphore that the body picks by the table's word is that of the slot. -/
theorem recv_sem (s : Fin 3) (off : Fin 1 → ℕ) (h : off = ![s.val]) (hb : ∀ a, off a + S1.size a ≤ S3.size a) :
    ((cc0_scratch5.slice (Rect.unit (s := S3) off S1.size hb)).squeeze S_ Gen.squeezes_S1_S_).sem = recvS s := by
  subst h; revert s; decide
/-- The receive slot that the body picks by the table's word is the slot. -/
theorem recv_slot (s : Fin 3) (off : Fin 3 → ℕ) (h : off = ![s.val, 0, 0]) (hb : ∀ a, off a + S1x1024x1024.size a ≤ S3x1024x1024.size a) :
    ((commM.slice (Rect.unit (s := S3x1024x1024) off S1x1024x1024.size hb) (fun _ => rfl)).squeeze S1024x1024 Gen.squeezes_S1x1024x1024_S1024x1024
      : Memref sig .tc .vmem S1024x1024 .bf16) = cs s := by
  subst h; rfl

/-- Phase 0 after its first point: the block is written to the accumulator. -/
theorem body_B (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 0) (j0 : 0 < j)
    (Kt : PUnit → sProp 𝕄) :
    iprop((records X κ ∗ levAts L lv ∗ tPts c ∗ accSt X B c j ∗ St1 X c ∗ owesE c (OA c) ∗ owns (c : Thread nD τ) a4 q4 (B c p j) ∗ owns (c : Thread nD τ) a5 fullShare d5)
      ∗ ((tPts c ∗ accSt X B c (j + 1) ∗ St1 X c ∗ owesE c (OA c) ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : ¬ k0_cond3 i = 1#1 := by rw [cond3_iff]; omega
  have c4 : k0_cond4 i = 1#1 := by rw [cond4_iff]; omega
  have c5 : ¬ k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [smemLoad, smemLoadElt, semSignalWord, semWaitWord, Prog.lift, Prog.bind_op, Prog.bind_ret, Prog.pure_eq_ret, Prog.bind_assoc, dif_neg c1, dif_neg c2, dif_neg c3, dif_pos c4, dif_neg c5, dif_neg c6, dif_neg c7]
  iintro ⟨⟨#HR, #Hlev, Ht, Ha, HS, HO, H4, H5⟩, Hk⟩
  icases HS with ⟨Hh, HS⟩
  iapply (step_head0 c i) $$ Ht; iintro Ht
  iapply (step_head1 c i) $$ Ht; iintro Ht
  iapply (step_loads c _ a4 q4 _ _ _) $$ [Hh H4]
  · isplitl [Hh]
    · iexact Hh
    iexact H4
  iintro ⟨Hh, H4⟩
  iapply (step_put X B c _ ⟨j, hj8⟩ rfl (k0_off9 i) (by rw [Gen.k0_off9_eq, hj]) _ _ _ (by subst p0; rfl)) $$ Ha
  iintro Ha
  iapply (le_wp_ret _ _ _ _)
  iapply Hk
  isplitl [Ht]
  · iexact Ht
  isplitl [Ha]
  · iexact Ha
  isplitl [Hh HS]
  · isplitl [Hh]
    · iexact Hh
    iexact HS
  isplitl [HO]
  · iexact HO
  isplitl [H4]
  · iexact H4
  iexact H5

/-- Phase 1 after its first point: the block is added to the accumulator. -/
theorem body_F1 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 1) (j0 : 0 < j)
    (Kt : PUnit → sProp 𝕄) :
    iprop((records X κ ∗ levAts L lv ∗ tPts c ∗ accSt X B c (8 + j) ∗ St2 X c ∗ owesE c 0 ∗ owns (c : Thread nD τ) a4 q4 (B c p j) ∗ owns (c : Thread nD τ) a5 fullShare d5)
      ∗ ((tPts c ∗ accSt X B c ((8 + j) + 1) ∗ St2 X c ∗ owesE c 0 ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : ¬ k0_cond3 i = 1#1 := by rw [cond3_iff]; omega
  have c4 : ¬ k0_cond4 i = 1#1 := by rw [cond4_iff]; omega
  have c5 : k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [smemLoad, smemLoadElt, semSignalWord, semWaitWord, Prog.lift, Prog.bind_op, Prog.bind_ret, Prog.pure_eq_ret, Prog.bind_assoc, dif_neg c1, dif_neg c2, dif_neg c3, dif_neg c4, dif_pos c5, dif_neg c6, dif_neg c7]
  iintro ⟨⟨#HR, #Hlev, Ht, Ha, HS, HO, H4, H5⟩, Hk⟩
  icases HS with ⟨Hh, HS⟩
  iapply (step_head0 c i) $$ Ht; iintro Ht
  iapply (step_head1 c i) $$ Ht; iintro Ht
  iapply (step_loads c _ a4 q4 _ _ _) $$ [Hh H4]
  · isplitl [Hh]
    · iexact Hh
    iexact H4
  iintro ⟨Hh, H4⟩
  iapply (step_add X B c _ 0 (by omega) ⟨j, hj8⟩ rfl (k0_off10 i) (by rw [Gen.k0_off10_eq, hj]) _ _ _ _ (by subst p0; rfl)) $$ Ha
  iintro Ha
  iapply (le_wp_ret _ _ _ _)
  iapply Hk
  isplitl [Ht]
  · iexact Ht
  isplitl [Ha]
  · iexact Ha
  isplitl [Hh HS]
  · isplitl [Hh]
    · iexact Hh
    iexact HS
  isplitl [HO]
  · iexact HO
  isplitl [H4]
  · iexact H4
  iexact H5

/-- Phase 2 after its first point: the block is added to the accumulator. -/
theorem body_F2 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 2) (j0 : 0 < j)
    (Kt : PUnit → sProp 𝕄) :
    iprop((records X κ ∗ levAts L lv ∗ tPts c ∗ accSt X B c (16 + j) ∗ St3 X c ∗ owesE c 0 ∗ owns (c : Thread nD τ) a4 q4 (B c p j) ∗ owns (c : Thread nD τ) a5 fullShare d5)
      ∗ ((tPts c ∗ accSt X B c ((16 + j) + 1) ∗ St3 X c ∗ owesE c 0 ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : ¬ k0_cond3 i = 1#1 := by rw [cond3_iff]; omega
  have c4 : ¬ k0_cond4 i = 1#1 := by rw [cond4_iff]; omega
  have c5 : k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [smemLoad, smemLoadElt, semSignalWord, semWaitWord, Prog.lift, Prog.bind_op, Prog.bind_ret, Prog.pure_eq_ret, Prog.bind_assoc, dif_neg c1, dif_neg c2, dif_neg c3, dif_neg c4, dif_pos c5, dif_neg c6, dif_neg c7]
  iintro ⟨⟨#HR, #Hlev, Ht, Ha, HS, HO, H4, H5⟩, Hk⟩
  icases HS with ⟨Hh, HS⟩
  iapply (step_head0 c i) $$ Ht; iintro Ht
  iapply (step_head1 c i) $$ Ht; iintro Ht
  iapply (step_loads c _ a4 q4 _ _ _) $$ [Hh H4]
  · isplitl [Hh]
    · iexact Hh
    iexact H4
  iintro ⟨Hh, H4⟩
  iapply (step_add X B c _ 1 (by omega) ⟨j, hj8⟩ rfl (k0_off10 i) (by rw [Gen.k0_off10_eq, hj]) _ _ _ _ (by subst p0; rfl)) $$ Ha
  iintro Ha
  iapply (le_wp_ret _ _ _ _)
  iapply Hk
  isplitl [Ht]
  · iexact Ht
  isplitl [Ha]
  · iexact Ha
  isplitl [Hh HS]
  · isplitl [Hh]
    · iexact Hh
    iexact HS
  isplitl [HO]
  · iexact HO
  isplitl [H4]
  · iexact H4
  iexact H5

/-- Phase 3 between its first and its last point: the output block is written. -/
theorem body_G (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 3) (j0 : 0 < j) (j7 : j < 7)
    (Kt : PUnit → sProp 𝕄) :
    iprop((records X κ ∗ levAts L lv ∗ tPts c ∗ accSt X B c (24 + j) ∗ St4 X c ∗ owesE c 0 ∗ owns (c : Thread nD τ) a4 q4 (B c p j) ∗ owns (c : Thread nD τ) a5 fullShare d5)
      ∗ ((tPts c ∗ accSt X B c ((24 + j) + 1) ∗ St4 X c ∗ owesE c 0 ∗ owns (c : Thread nD τ) a4 q4 (B c p j) ∗ owns (c : Thread nD τ) a5 fullShare (outV X B c j)) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : ¬ k0_cond3 i = 1#1 := by rw [cond3_iff]; omega
  have c4 : ¬ k0_cond4 i = 1#1 := by rw [cond4_iff]; omega
  have c5 : ¬ k0_cond5 i = 1#1 := by rw [cond5_iff]; omega
  have c6 : k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [smemLoad, smemLoadElt, semSignalWord, semWaitWord, Prog.lift, Prog.bind_op, Prog.bind_ret, Prog.pure_eq_ret, Prog.bind_assoc, dif_neg c1, dif_neg c2, dif_neg c3, dif_neg c4, dif_neg c5, dif_pos c6, dif_neg c7]
  iintro ⟨⟨#HR, #Hlev, Ht, Ha, HS, HO, H4, H5⟩, Hk⟩
  icases HS with ⟨Hh, HS⟩
  iapply (step_head0 c i) $$ Ht; iintro Ht
  iapply (step_head1 c i) $$ Ht; iintro Ht
  iapply (step_loads c _ a4 q4 _ _ _) $$ [Hh H4]
  · isplitl [Hh]
    · iexact Hh
    iexact H4
  iintro ⟨Hh, H4⟩
  iapply (step_out X B c _ ⟨j, hj8⟩ rfl (k0_off11 i) (by rw [Gen.k0_off11_eq, hj]) _ _ (by subst p0; rfl) a5 _ _ _) $$ [Ha H5]
  · isplitl [Ha]
    · iexact Ha
    iexact H5
  iintro ⟨Ha, H5⟩
  iapply (le_wp_ret _ _ _ _)
  iapply Hk
  isplitl [Ht]
  · iexact Ht
  isplitl [Ha]
  · iexact Ha
  isplitl [Hh HS]
  · isplitl [Hh]
    · iexact Hh
    iexact HS
  isplitl [HO]
  · iexact HO
  isplitl [H4]
  · iexact H4
  iexact H5

/-- The first point: the handshake, the first two blocks sent, the own block loaded and multiplied. -/
theorem body_A (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 0) (j0 : j = 0)
    (Kt : PUnit → sProp 𝕄) :
    iprop((records X κ ∗ levAts L lv ∗ tPts c ∗ accSt X B c 0 ∗ St0 X c ∗ owesE c (O₀ c) ∗ owns (c : Thread nD τ) a4 q4 (B c p j) ∗ owns (c : Thread nD τ) a5 fullShare d5)
      ∗ ((tPts c ∗ accSt X B c (0 + 1) ∗ St1 X c ∗ owesE c (OA c) ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : k0_cond1 i = 1#1 := by rw [cond1_iff]; omega
  have c2 : ¬ k0_cond2 i = 1#1 := by rw [cond2_iff]; omega
  have c3 : ¬ k0_cond3 i = 1#1 := by rw [cond3_iff]; omega
  have c4 : k0_cond4 i = 1#1 := by rw [cond4_iff]; omega
  have c5 : ¬ k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [Gen.k0_part1_eq_skeleton, Gen.k0_part1_skel, Gen.k0_part2_eq_skeleton, Gen.k0_part2_skel, Gen.k0_part3_eq_skeleton, Gen.k0_part3_skel, smemLoad, smemLoadElt, semSignalWord, semWaitWord, Prog.lift, Prog.bind_op, Prog.bind_ret, Prog.pure_eq_ret, Prog.bind_assoc, dif_pos c1, dif_neg c2, dif_neg c3, dif_pos c4, dif_neg c5, dif_neg c6, dif_neg c7]
  iintro ⟨⟨#HR, #Hlev, Ht, Ha, HS, HO, H4, H5⟩, Hk⟩
  icases HS with ⟨Hh, Hx, ⟨Hc0, #Hr0⟩, ⟨Hc1, #Hr1⟩, ⟨Hc2, #Hr2⟩, Hs0, Hs1, Hs2, ⟨Hb, Hcb⟩, Ht0, Ht1, Ht2, ⟨Hp0, #Hq0, Hd0, He0⟩, ⟨Hp1, #Hq1, Hd1, He1⟩, ⟨Hp2, #Hq2, Hd2, He2⟩, ⟨Hl, #Hlr⟩, HL0, HL1, HL2, HL3, HD⟩
  iapply (step_head0 c i) $$ Ht; iintro Ht
  iapply (step_head1 c i) $$ Ht; iintro Ht
  iapply (step_signal X κ c _ 0 (Fin.ext (dev1 c)) _ rfl _ rfl (OC c + tallyAt (barCell (sh c 3)) () 1 + tallyAt (barCell (sh c 2)) () 1) (O₀ c) rfl) $$ [HO Ht0 Hc0]
  · isplitr
    · iexact HR
    isplitl [HO]
    · iexact HO
    isplitl [Ht0]
    · iexact Ht0
    isplitl [Hc0]
    · iexact Hc0
    iexact Hr0
  iintro HO
  iapply (step_signal X κ c _ 1 (Fin.ext (dev2 c)) _ rfl _ rfl (OC c + tallyAt (barCell (sh c 3)) () 1) (OC c + tallyAt (barCell (sh c 3)) () 1 + tallyAt (barCell (sh c 2)) () 1) rfl) $$ [HO Ht1 Hc1]
  · isplitr
    · iexact HR
    isplitl [HO]
    · iexact HO
    isplitl [Ht1]
    · iexact Ht1
    isplitl [Hc1]
    · iexact Hc1
    iexact Hr1
  iintro HO
  iapply (step_signal X κ c _ 2 (Fin.ext (dev3 c)) _ rfl _ rfl (OC c) (OC c + tallyAt (barCell (sh c 3)) () 1) rfl) $$ [HO Ht2 Hc2]
  · isplitr
    · iexact HR
    isplitl [HO]
    · iexact HO
    isplitl [Ht2]
    · iexact Ht2
    isplitl [Hc2]
    · iexact Hc2
    iexact Hr2
  iintro HO
  iapply (step_wait_bar X κ c _ rfl _ rfl) $$ [Hcb HO Hb]
  · isplitr
    · iexact HR
    isplitr
    · iexact Hlev
    isplitl [Hcb]
    · iexact Hcb
    isplitl [HO]
    · iexact HO
    iexact Hb
  iintro ⟨HO, Hb, B3, B2, B1⟩
  iapply (step_local X κ c 0 (by omega) _ _ (xs_eq c 1 (off3_1 c) _) _ _ rfl rfl _ _ rfl rfl (OC c) ((above_C c).mono (Nat.zero_le 1))) $$ [HO Hh Hx HL0 Hl]
  · isplitr
    · iexact HR
    isplitr
    · iexact Hlev
    isplitl [HO]
    · iexact HO
    isplitl [Hh]
    · iexact Hh
    isplitl [Hx]
    · iexact Hx
    isplitl [HL0]
    · iexact HL0
    isplitl [Hl]
    · iexact Hl
    iexact Hlr
  iintro ⟨HO, Hh, Hx, Hl, #Hlr⟩
  iapply (step_fill c 0 _ Gen.k0_pay3 ![0, 0, 0] rfl _ _ _) $$ [Hh Hs0]
  · isplitl [Hh]
    · iexact Hh
    iexact Hs0
  iintro %f0 %hf0 ⟨Hh, Hs0⟩
  iapply (step_send X κ c _ 0 2 rfl (Fin.ext (dev4 c)) _ _ rfl rfl _ _ rfl rfl (OB c) (OC c) rfl f0 hf0) $$ [HO Hs0 B1 Hd0 He0]
  · isplitr
    · iexact HR
    isplitl [HO]
    · iexact HO
    isplitl [Hs0]
    · iexact Hs0
    isplitl [B1]
    · iexact B1
    isplitl [Hd0]
    · iexact Hd0
    isplitr
    · iexact Hq0
    iexact He0
  iintro ⟨Hw0, HO⟩
  ihave Hh := (show (hPts c _ : sProp 𝕄) ⊢ hAny c by iintro H; iexists _; iexact H) $$ Hh
  iapply (step_local X κ c 1 (by omega) _ _ (xs_eq c 3 (off3_3 c) _) _ _ rfl rfl _ _ rfl rfl (OB c) ((above_B c).mono (Nat.zero_le 1))) $$ [HO Hh Hx HL1 Hl]
  · isplitr
    · iexact HR
    isplitr
    · iexact Hlev
    isplitl [HO]
    · iexact HO
    isplitl [Hh]
    · iexact Hh
    isplitl [Hx]
    · iexact Hx
    isplitl [HL1]
    · iexact HL1
    isplitl [Hl]
    · iexact Hl
    iexact Hlr
  iintro ⟨HO, Hh, Hx, Hl, #Hlr⟩
  iapply (step_fill c 2 _ Gen.k0_pay4 ![2, 0, 0] rfl _ _ _) $$ [Hh Hs2]
  · isplitl [Hh]
    · iexact Hh
    iexact Hs2
  iintro %f2 %hf2 ⟨Hh, Hs2⟩
  iapply (step_send X κ c _ 2 0 rfl (Fin.ext (dev5 c)) _ _ rfl rfl _ _ rfl rfl (OA c) (OB c) rfl f2 hf2) $$ [HO Hs2 B3 Hd2 He2]
  · isplitr
    · iexact HR
    isplitl [HO]
    · iexact HO
    isplitl [Hs2]
    · iexact Hs2
    isplitl [B3]
    · iexact B3
    isplitl [Hd2]
    · iexact Hd2
    isplitr
    · iexact Hq2
    iexact He2
  iintro ⟨Hw2, HO⟩
  ihave Hh := (show (hPts c _ : sProp 𝕄) ⊢ hAny c by iintro H; iexists _; iexact H) $$ Hh
  iapply (step_local X κ c 2 (by omega) _ _ (xs_eq c 0 (off4_0 c) _) _ _ rfl rfl _ _ rfl rfl (OA c) ((above_A c).mono (Nat.zero_le 1))) $$ [HO Hh Hx HL2 Hl]
  · isplitr
    · iexact HR
    isplitr
    · iexact Hlev
    isplitl [HO]
    · iexact HO
    isplitl [Hh]
    · iexact Hh
    isplitl [Hx]
    · iexact Hx
    isplitl [HL2]
    · iexact HL2
    isplitl [Hl]
    · iexact Hl
    iexact Hlr
  iintro ⟨HO, Hh, Hx, Hl, #Hlr⟩
  rw [show xrow X c (dOf 2) = chunkV X c 0 from rfl]
  iapply (step_loads c _ a4 q4 _ _ _) $$ [Hh H4]
  · isplitl [Hh]
    · iexact Hh
    iexact H4
  iintro ⟨Hh, H4⟩
  iapply (step_put X B c _ ⟨j, hj8⟩ j0.symm (k0_off9 i) (by rw [Gen.k0_off9_eq, hj]) _ _ _ (by subst p0; rfl)) $$ Ha
  iintro Ha
  unfold wpB
  rw [wp_ret]
  imod (close1 X κ (Finset.mem_union_left _ (bar_mem c)) (bar_ne c)) $$ [Hb] with Hb
  · isplitr; · iexact HR
    iexact Hb
  imodintro
  iapply Hk
  isplitl [Ht]
  · iexact Ht
  isplitl [Ha]
  · iexact Ha
  isplitl [Hh Hx Hb Hp0 Hw0 Hp2 Hw2 Hs1 B2 Hp1 Hd1 He1 Hl HL3 HD]
  · isplitl [Hh]
    · iexact Hh
    isplitl [Hx]
    · iexact Hx
    isplitl [Hb]
    · iexact Hb
    isplitl [Hp0 Hw0]
    · isplitl [Hp0]
      · iexact Hp0
      iexact Hw0
    isplitl [Hp2 Hw2]
    · isplitl [Hp2]
      · iexact Hp2
      iexact Hw2
    isplitl [Hs1 B2 Hp1 Hd1 He1]
    · isplitl [Hs1]
      · iexact Hs1
      isplitl [B2]
      · iexact B2
      isplitl [Hp1]
      · iexact Hp1
      isplitr
      · iexact Hq1
      isplitl [Hd1]
      · iexact Hd1
      iexact He1
    isplitl [Hl HL3]
    · isplitl [Hl]
      · iexact Hl
      isplitr
      · iexact Hlr
      iexact HL3
    iexact HD
  isplitl [HO]
  · iexact HO
  isplitl [H4]
  · iexact H4
  iexact H5

/-- The first point of phase 1: the last block is sent, the first block received is loaded and multiplied. -/
theorem body_C (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 1) (j0 : j = 0)
    (Kt : PUnit → sProp 𝕄) :
    iprop((records X κ ∗ levAts L lv ∗ tPts c ∗ accSt X B c 8 ∗ St1 X c ∗ owesE c (OA c) ∗ owns (c : Thread nD τ) a4 q4 (B c p j) ∗ owns (c : Thread nD τ) a5 fullShare d5)
      ∗ ((tPts c ∗ accSt X B c (8 + 1) ∗ St2 X c ∗ owesE c 0 ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : k0_cond2 i = 1#1 := by rw [cond2_iff]; omega
  have c3 : k0_cond3 i = 1#1 := by rw [cond3_iff]; omega
  have c4 : ¬ k0_cond4 i = 1#1 := by rw [cond4_iff]; omega
  have c5 : k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [Gen.k0_part1_eq_skeleton, Gen.k0_part1_skel, Gen.k0_part2_eq_skeleton, Gen.k0_part2_skel, Gen.k0_part3_eq_skeleton, Gen.k0_part3_skel, smemLoad, smemLoadElt, semSignalWord, semWaitWord, Prog.lift, Prog.bind_op, Prog.bind_ret, Prog.pure_eq_ret, Prog.bind_assoc, dif_neg c1, dif_pos c2, dif_pos c3, dif_neg c4, dif_pos c5, dif_neg c6, dif_neg c7]
  iintro ⟨⟨#HR, #Hlev, Ht, Ha, HS, HO, H4, H5⟩, Hk⟩
  have hs : sl i = 0 := by unfold sl; rw [hp, p0]; rfl
  have o6 : k0_off6 (swrd (sl i)) = ![(0 : Fin 3).val] := by rw [hs]; exact off6 0
  have o7 : k0_off7 (swrd (sl i)) = ![(0 : Fin 3).val, 0, 0] := by rw [hs]; exact off7 0
  have o8 : k0_off8 (swrd (sl i)) = ![(0 : Fin 3).val, 0, 0] := by rw [hs]; exact off8 0
  icases HS with ⟨Hh, Hx, Hbar, HP0, HP2, ⟨Hs1, B2, ⟨Hp1, #Hq1, Hd1, He1⟩⟩, ⟨Hl, #Hlr, HL3⟩, ⟨Hp, Hw⟩, HD1, HD2⟩
  iapply (step_head0 c i) $$ Ht; iintro Ht
  iapply (step_head1 c i) $$ Ht; iintro Ht
  ihave Hh := (show (hPts c _ : sProp 𝕄) ⊢ hAny c by iintro H; iexists _; iexact H) $$ Hh
  iapply (step_local X κ c 3 (by omega) _ _ (xs_eq c 2 (off5_2 c) _) _ _ rfl rfl _ _ rfl rfl (OA c) ((above_A c).mono (Nat.zero_le 1))) $$ [HO Hh Hx HL3 Hl]
  · isplitr
    · iexact HR
    isplitr
    · iexact Hlev
    isplitl [HO]
    · iexact HO
    isplitl [Hh]
    · iexact Hh
    isplitl [Hx]
    · iexact Hx
    isplitl [HL3]
    · iexact HL3
    isplitl [Hl]
    · iexact Hl
    iexact Hlr
  iintro ⟨HO, Hh, Hx, Hl, #Hlr⟩
  iapply (step_fill c 1 _ Gen.k0_pay5 ![1, 0, 0] rfl _ _ _) $$ [Hh Hs1]
  · isplitl [Hh]
    · iexact Hh
    iexact Hs1
  iintro %f1 %hf1 ⟨Hh, Hs1⟩
  iapply (step_send X κ c _ 1 1 rfl (Fin.ext (dev6 c)) _ _ rfl rfl _ _ rfl rfl 0 (OA c) rfl f1 hf1) $$ [HO Hs1 B2 Hd1 He1]
  · isplitr
    · iexact HR
    isplitl [HO]
    · iexact HO
    isplitl [Hs1]
    · iexact Hs1
    isplitl [B2]
    · iexact B2
    isplitl [Hd1]
    · iexact Hd1
    isplitr
    · iexact Hq1
    iexact He1
  iintro ⟨Hw1, HO⟩
  iapply (step_wait_recv X κ c 0 _ (recv_sem 0 _ o6 _) _ _ (recv_slot 0 _ o7 _)) $$ [Hw HO Hp]
  · isplitr
    · iexact HR
    isplitl [Hw]
    · iexact Hw
    isplitl [HO]
    · iexact HO
    iexact Hp
  iintro ⟨HO, Hp, Hg⟩
  ihave Hh := (show (hPts c _ : sProp 𝕄) ⊢ hAny c by iintro H; iexists _; iexact H) $$ Hh
  iapply (step_get X c 0 (k0_off8 (swrd (sl i))) o8 _ _ _) $$ [Hg Hh]
  · isplitl [Hg]
    · iexact Hg
    iexact Hh
  iintro ⟨Hc, Hh⟩
  rw [show Gen.k0_pay6 (commW X c 0) = chunkV X c 1 from rfl]
  iapply (step_loads c _ a4 q4 _ _ _) $$ [Hh H4]
  · isplitl [Hh]
    · iexact Hh
    iexact H4
  iintro ⟨Hh, H4⟩
  iapply (step_add X B c _ 0 (by omega) ⟨j, hj8⟩ (by show 8 = 8 * (0 + 1) + j; omega) (k0_off10 i) (by rw [Gen.k0_off10_eq, hj]) _ _ _ _ (by subst p0; rfl)) $$ Ha
  iintro Ha
  iapply (le_wp_ret _ _ _ _)
  iapply Hk
  isplitl [Ht]
  · iexact Ht
  isplitl [Ha]
  · iexact Ha
  isplitl [Hh Hx Hbar HP0 Hp1 Hw1 HP2 Hl Hp Hc HD1 HD2]
  · isplitl [Hh]
    · iexact Hh
    isplitl [Hx]
    · iexact Hx
    isplitl [Hbar]
    · iexact Hbar
    isplitl [HP0]
    · iexact HP0
    isplitl [Hp1 Hw1]
    · isplitl [Hp1]
      · iexact Hp1
      iexact Hw1
    isplitl [HP2]
    · iexact HP2
    isplitl [Hl]
    · iexact Hl
    isplitl [Hp Hc]
    · isplitl [Hp]
      · iexact Hp
      iexact Hc
    isplitl [HD1]
    · iexact HD1
    iexact HD2
  isplitl [HO]
  · iexact HO
  isplitl [H4]
  · iexact H4
  iexact H5

/-- The first point of phase 2. -/
theorem body_D (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 2) (j0 : j = 0)
    (Kt : PUnit → sProp 𝕄) :
    iprop((records X κ ∗ levAts L lv ∗ tPts c ∗ accSt X B c 16 ∗ St2 X c ∗ owesE c 0 ∗ owns (c : Thread nD τ) a4 q4 (B c p j) ∗ owns (c : Thread nD τ) a5 fullShare d5)
      ∗ ((tPts c ∗ accSt X B c (16 + 1) ∗ St3 X c ∗ owesE c 0 ∗ owns (c : Thread nD τ) a4 q4 (B c p j) ∗ owns (c : Thread nD τ) a5 fullShare d5) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : k0_cond3 i = 1#1 := by rw [cond3_iff]; omega
  have c4 : ¬ k0_cond4 i = 1#1 := by rw [cond4_iff]; omega
  have c5 : k0_cond5 i = 1#1 := by rw [cond5_iff]; omega
  have c6 : ¬ k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [Gen.k0_part1_eq_skeleton, Gen.k0_part1_skel, Gen.k0_part2_eq_skeleton, Gen.k0_part2_skel, Gen.k0_part3_eq_skeleton, Gen.k0_part3_skel, smemLoad, smemLoadElt, semSignalWord, semWaitWord, Prog.lift, Prog.bind_op, Prog.bind_ret, Prog.pure_eq_ret, Prog.bind_assoc, dif_neg c1, dif_neg c2, dif_pos c3, dif_neg c4, dif_pos c5, dif_neg c6, dif_neg c7]
  iintro ⟨⟨#HR, #Hlev, Ht, Ha, HS, HO, H4, H5⟩, Hk⟩
  have hs : sl i = 2 := by unfold sl; rw [hp, p0]; rfl
  have o6 : k0_off6 (swrd (sl i)) = ![(2 : Fin 3).val] := by rw [hs]; exact off6 2
  have o7 : k0_off7 (swrd (sl i)) = ![(2 : Fin 3).val, 0, 0] := by rw [hs]; exact off7 2
  have o8 : k0_off8 (swrd (sl i)) = ![(2 : Fin 3).val, 0, 0] := by rw [hs]; exact off8 2
  icases HS with ⟨Hh, Hx, Hbar, HP0, HP1, HP2, Hl, HG0, HD1, ⟨Hp, Hw⟩⟩
  iapply (step_head0 c i) $$ Ht; iintro Ht
  iapply (step_head1 c i) $$ Ht; iintro Ht
  iapply (step_wait_recv X κ c 2 _ (recv_sem 2 _ o6 _) _ _ (recv_slot 2 _ o7 _)) $$ [Hw HO Hp]
  · isplitr
    · iexact HR
    isplitl [Hw]
    · iexact Hw
    isplitl [HO]
    · iexact HO
    iexact Hp
  iintro ⟨HO, Hp, Hg⟩
  ihave Hh := (show (hPts c _ : sProp 𝕄) ⊢ hAny c by iintro H; iexists _; iexact H) $$ Hh
  iapply (step_get X c 2 (k0_off8 (swrd (sl i))) o8 _ _ _) $$ [Hg Hh]
  · isplitl [Hg]
    · iexact Hg
    iexact Hh
  iintro ⟨Hc, Hh⟩
  rw [show Gen.k0_pay6 (commW X c 2) = chunkV X c 2 from rfl]
  iapply (step_loads c _ a4 q4 _ _ _) $$ [Hh H4]
  · isplitl [Hh]
    · iexact Hh
    iexact H4
  iintro ⟨Hh, H4⟩
  iapply (step_add X B c _ 1 (by omega) ⟨j, hj8⟩ (by show 16 = 8 * (1 + 1) + j; omega) (k0_off10 i) (by rw [Gen.k0_off10_eq, hj]) _ _ _ _ (by subst p0; rfl)) $$ Ha
  iintro Ha
  iapply (le_wp_ret _ _ _ _)
  iapply Hk
  isplitl [Ht]
  · iexact Ht
  isplitl [Ha]
  · iexact Ha
  isplitl [Hh Hx Hbar HP0 HP1 HP2 Hl HG0 HD1 Hp Hc]
  · isplitl [Hh]
    · iexact Hh
    isplitl [Hx]
    · iexact Hx
    isplitl [Hbar]
    · iexact Hbar
    isplitl [HP0]
    · iexact HP0
    isplitl [HP1]
    · iexact HP1
    isplitl [HP2]
    · iexact HP2
    isplitl [Hl]
    · iexact Hl
    isplitl [HG0]
    · iexact HG0
    isplitl [HD1]
    · iexact HD1
    isplitl [Hp]
    · iexact Hp
    iexact Hc
  isplitl [HO]
  · iexact HO
  isplitl [H4]
  · iexact H4
  iexact H5

/-- The first point of phase 3. -/
theorem body_E (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 3) (j0 : j = 0)
    (Kt : PUnit → sProp 𝕄) :
    iprop((records X κ ∗ levAts L lv ∗ tPts c ∗ accSt X B c 24 ∗ St3 X c ∗ owesE c 0 ∗ owns (c : Thread nD τ) a4 q4 (B c p j) ∗ owns (c : Thread nD τ) a5 fullShare d5)
      ∗ ((tPts c ∗ accSt X B c (24 + 1) ∗ St4 X c ∗ owesE c 0 ∗ owns (c : Thread nD τ) a4 q4 (B c p j) ∗ owns (c : Thread nD τ) a5 fullShare (outV X B c j)) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : k0_cond3 i = 1#1 := by rw [cond3_iff]; omega
  have c4 : ¬ k0_cond4 i = 1#1 := by rw [cond4_iff]; omega
  have c5 : ¬ k0_cond5 i = 1#1 := by rw [cond5_iff]; omega
  have c6 : k0_cond6 i = 1#1 := by rw [cond6_iff]; omega
  have c7 := mt (cond7_iff i).mp (by omega)
  unfold bodyAt
  rw [Gen.cc0_body_eq_skeleton]
  unfold Gen.cc0_body_skel
  rw [Gen.k0_part5_eq_skeleton]
  unfold Gen.k0_part5_skel
  simp only [Gen.k0_part1_eq_skeleton, Gen.k0_part1_skel, Gen.k0_part2_eq_skeleton, Gen.k0_part2_skel, Gen.k0_part3_eq_skeleton, Gen.k0_part3_skel, smemLoad, smemLoadElt, semSignalWord, semWaitWord, Prog.lift, Prog.bind_op, Prog.bind_ret, Prog.pure_eq_ret, Prog.bind_assoc, dif_neg c1, dif_neg c2, dif_pos c3, dif_neg c4, dif_neg c5, dif_pos c6, dif_neg c7]
  iintro ⟨⟨#HR, #Hlev, Ht, Ha, HS, HO, H4, H5⟩, Hk⟩
  have hs : sl i = 1 := by unfold sl; rw [hp, p0]; rfl
  have o6 : k0_off6 (swrd (sl i)) = ![(1 : Fin 3).val] := by rw [hs]; exact off6 1
  have o7 : k0_off7 (swrd (sl i)) = ![(1 : Fin 3).val, 0, 0] := by rw [hs]; exact off7 1
  have o8 : k0_off8 (swrd (sl i)) = ![(1 : Fin 3).val, 0, 0] := by rw [hs]; exact off8 1
  icases HS with ⟨Hh, Hx, Hbar, HP0, HP1, HP2, Hl, HG0, ⟨Hp, Hw⟩, HG2⟩
  iapply (step_head0 c i) $$ Ht; iintro Ht
  iapply (step_head1 c i) $$ Ht; iintro Ht
  iapply (step_wait_recv X κ c 1 _ (recv_sem 1 _ o6 _) _ _ (recv_slot 1 _ o7 _)) $$ [Hw HO Hp]
  · isplitr
    · iexact HR
    isplitl [Hw]
    · iexact Hw
    isplitl [HO]
    · iexact HO
    iexact Hp
  iintro ⟨HO, Hp, Hg⟩
  ihave Hh := (show (hPts c _ : sProp 𝕄) ⊢ hAny c by iintro H; iexists _; iexact H) $$ Hh
  iapply (step_get X c 1 (k0_off8 (swrd (sl i))) o8 _ _ _) $$ [Hg Hh]
  · isplitl [Hg]
    · iexact Hg
    iexact Hh
  iintro ⟨Hc, Hh⟩
  rw [show Gen.k0_pay6 (commW X c 1) = chunkV X c 3 from rfl]
  iapply (step_loads c _ a4 q4 _ _ _) $$ [Hh H4]
  · isplitl [Hh]
    · iexact Hh
    iexact H4
  iintro ⟨Hh, H4⟩
  iapply (step_out X B c _ ⟨j, hj8⟩ (by show 24 = 24 + j; omega) (k0_off11 i) (by rw [Gen.k0_off11_eq, hj]) _ _ (by subst p0; rfl) a5 _ _ _) $$ [Ha H5]
  · isplitl [Ha]
    · iexact Ha
    iexact H5
  iintro ⟨Ha, H5⟩
  iapply (le_wp_ret _ _ _ _)
  iapply Hk
  isplitl [Ht]
  · iexact Ht
  isplitl [Ha]
  · iexact Ha
  isplitl [Hh Hx Hbar HP0 HP1 HP2 Hl HG0 Hp Hc HG2]
  · isplitl [Hh]
    · iexact Hh
    isplitl [Hx]
    · iexact Hx
    isplitl [Hbar]
    · iexact Hbar
    isplitl [HP0]
    · iexact HP0
    isplitl [HP1]
    · iexact HP1
    isplitl [HP2]
    · iexact HP2
    isplitl [Hl]
    · iexact Hl
    isplitl [HG0]
    · iexact HG0
    isplitl [Hp Hc]
    · isplitl [Hp]
      · iexact Hp
      iexact Hc
    iexact HG2
  isplitl [HO]
  · iexact HO
  isplitl [H4]
  · iexact H4
  iexact H5

/-- The last point: the last output block is written, the copies sent are waited for, every counter is back at zero. -/
theorem body_H (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j : ℕ) (hp : (i 0).val = p) (hj : (i 1).val = j) (p0 : p = 3) (j0 : j = 7)
    (Kt : PUnit → sProp 𝕄) :
    iprop((records X κ ∗ levAts L lv ∗ tPts c ∗ accSt X B c 31 ∗ St4 X c ∗ owesE c 0 ∗ owns (c : Thread nD τ) a4 q4 (B c p j) ∗ owns (c : Thread nD τ) a5 fullShare d5)
      ∗ ((tPts c ∗ accSt X B c (31 + 1) ∗ St5 X c ∗ owesE c 0 ∗ owns (c : Thread nD τ) a4 q4 (B c p j) ∗ owns (c : Thread nD τ) a5 fullShare (outV X B c j)) -∗ Kt ⟨⟩))
      ⊢ wpB c (bodyAt i a4 h4 a5 h5) Kt := by
  have hj8 : j < 8 := hj ▸ (i 1).isLt
  have c1 : ¬ k0_cond1 i = 1#1 := by rw [cond1_iff]; omega
  have c2 : ¬ k0_cond2 i = 1#1 := by rw [cond2_iff]; omega
  have c3 : ¬ k0_cond3 i = 1#1 := by rw [cond3_iff]; omega
  have c4 : ¬ k0_cond4 i = 1#1 := by rw [cond4_iff]; omega
  have c5 : ¬ k0_cond5 i = 1#1 := by rw [cond5_iff]; omega
  have c6 : k0_cond6 i = 1#1 := by rw [cond6_iff]; omega
  have c7 := (cond7_iff i).mpr (by omega)
  unfold bodyAt
  rw [Gen.cc0_body_eq_skeleton]
  unfold Gen.cc0_body_skel
  rw [Gen.k0_part5_eq_skeleton]
  unfold Gen.k0_part5_skel
  simp only [Gen.k0_part4_eq_skeleton, Gen.k0_part4_skel, smemLoad, smemLoadElt, semSignalWord, semWaitWord, Prog.lift, Prog.bind_op, Prog.bind_ret, Prog.pure_eq_ret, Prog.bind_assoc, dif_neg c1, dif_neg c2, dif_neg c3, dif_neg c4, dif_neg c5, dif_pos c6, dif_pos c7]
  iintro ⟨⟨#HR, #Hlev, Ht, Ha, HS, HO, H4, H5⟩, Hk⟩
  icases HS with ⟨Hh, Hx, Hbar, ⟨Hp0, Hw0⟩, ⟨Hp1, Hw1⟩, ⟨Hp2, Hw2⟩, Hl, ⟨Hg0, Hc0⟩, ⟨Hg1, Hc1⟩, ⟨Hg2, Hc2⟩⟩
  iapply (step_head0 c i) $$ Ht; iintro Ht
  iapply (step_head1 c i) $$ Ht; iintro Ht
  iapply (step_loads c _ a4 q4 _ _ _) $$ [Hh H4]
  · isplitl [Hh]
    · iexact Hh
    iexact H4
  iintro ⟨Hh, H4⟩
  iapply (step_out X B c _ ⟨j, hj8⟩ (by show 31 = 24 + j; omega) (k0_off11 i) (by rw [Gen.k0_off11_eq, hj]) _ _ (by subst p0; rfl) a5 _ _ _) $$ [Ha H5]
  · isplitl [Ha]
    · iexact Ha
    iexact H5
  iintro ⟨Ha, H5⟩
  iapply (step_wait_send X κ c 0 _ rfl _ _ rfl) $$ [Hw0 HO Hp0]
  · isplitr
    · iexact HR
    isplitl [Hw0]
    · iexact Hw0
    isplitl [HO]
    · iexact HO
    iexact Hp0
  iintro ⟨HO, Hp0, Hs0⟩
  iapply (step_wait_send X κ c 1 _ rfl _ _ rfl) $$ [Hw1 HO Hp1]
  · isplitr
    · iexact HR
    isplitl [Hw1]
    · iexact Hw1
    isplitl [HO]
    · iexact HO
    iexact Hp1
  iintro ⟨HO, Hp1, Hs1⟩
  iapply (step_wait_send X κ c 2 _ rfl _ _ rfl) $$ [Hw2 HO Hp2]
  · isplitr
    · iexact HR
    isplitl [Hw2]
    · iexact Hw2
    isplitl [HO]
    · iexact HO
    iexact Hp2
  iintro ⟨HO, Hp2, Hs2⟩
  ihave Hh := (show (hPts c _ : sProp 𝕄) ⊢ hAny c by iintro H; iexists _; iexact H) $$ Hh
  unfold wpB
  rw [wp_ret]
  imod (close1 X κ (Finset.mem_union_right _ (send_mem c 0)) (send_ne c 0)) $$ [Hp0] with Hp0
  · isplitr; · iexact HR
    iexact Hp0
  imod (close1 X κ (Finset.mem_union_right _ (recv_mem c 0)) (recv_ne c 0)) $$ [Hg0] with Hg0
  · isplitr; · iexact HR
    iexact Hg0
  imod (close1 X κ (Finset.mem_union_right _ (send_mem c 1)) (send_ne c 1)) $$ [Hp1] with Hp1
  · isplitr; · iexact HR
    iexact Hp1
  imod (close1 X κ (Finset.mem_union_right _ (recv_mem c 1)) (recv_ne c 1)) $$ [Hg1] with Hg1
  · isplitr; · iexact HR
    iexact Hg1
  imod (close1 X κ (Finset.mem_union_right _ (send_mem c 2)) (send_ne c 2)) $$ [Hp2] with Hp2
  · isplitr; · iexact HR
    iexact Hp2
  imod (close1 X κ (Finset.mem_union_right _ (recv_mem c 2)) (recv_ne c 2)) $$ [Hg2] with Hg2
  · isplitr; · iexact HR
    iexact Hg2
  imod (close4 X κ c) $$ [Hl] with Hl
  · isplitr; · iexact HR
    iexact Hl
  imodintro
  iapply Hk
  isplitl [Ht]
  · iexact Ht
  isplitl [Ha]
  · iexact Ha
  isplitl [Hh Hx Hbar Hp0 Hp1 Hp2 Hg0 Hg1 Hg2 Hl Hc0 Hc1 Hc2 Hs0 Hs1 Hs2]
  · isplitl [Hh]
    · iexact Hh
    isplitl [Hx]
    · iexact Hx
    isplitl [Hbar]
    · iexact Hbar
    isplitl [Hp0 Hp1 Hp2]
    · isplitl [Hp0]
      · iexact Hp0
      isplitl [Hp1]
      · iexact Hp1
      iexact Hp2
    isplitl [Hg0 Hg1 Hg2]
    · isplitl [Hg0]
      · iexact Hg0
      isplitl [Hg1]
      · iexact Hg1
      iexact Hg2
    isplitl [Hl]
    · iexact Hl
    isplitl [Hc0 Hc1 Hc2]
    · isplitl [Hc0]
      · iexact Hc0
      isplitl [Hc1]
      · iexact Hc1
      iexact Hc2
    isplitl [Hs0]
    · iexact Hs0
    isplitl [Hs1]
    · iexact Hs1
    iexact Hs2
  isplitl [HO]
  · iexact HO
  isplitl [H4]
  · iexact H4
  iexact H5

end Cert.A2A
end
-- ==== Proof.Region.lean ====
module

public import proofs.«01_k».proof.Proof.Body

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf pinD)
open Cert.KernelIdeal

variable {F : FTy → Type} [FloatOps F]

local notation "𝕄" => MT nD τ sig Unit (Elt F) ℕ UU ℕ

/-! ## The table a device runs at -/

/-- The prefetched contents of device `c`. -/
def pfT (c : Dev nD) : pre0.Contents (Elt F) := fun
  | 0 => (tbl c : IVec S2x4 32)
  | ⟨_ + 1, h⟩ => absurd h (Nat.not_lt.2 (Nat.le_add_left _ _))

/-- The first row of the table, read at a phase, is the device whose columns the phase multiplies. -/
theorem tbl_at (c : Dev nD) (off : Fin 2 → ℕ) (hb : ∀ a, off a + S1x1.size a ≤ S2x4.size a) (q : ℕ) (ho : off = ![0, q])
    (x : (Rect.unit (s := S2x4) off S1x1.size hb).shape.Idx) : tbl c ((Rect.unit (s := S2x4) off S1x1.size hb).emb x) = BitVec.ofNat 32 (srcVal c.val q) := by
  subst ho
  have h0 : (x 0).val = 0 := by have : (x 0).val < 1 := (x 0).isLt; omega
  have h1 : (x 1).val = 0 := by have : (x 1).val < 1 := (x 1).isLt; omega
  have e0 : (((Rect.unit (s := S2x4) ![0, q] S1x1.size hb).emb x) 0).val = 0 := by
    rw [Rect.emb_apply]; show 0 + 1 * (x 0).val = 0; omega
  have e1 : (((Rect.unit (s := S2x4) ![0, q] S1x1.size hb).emb x) 1).val = q := by
    rw [Rect.emb_apply]; show q + 1 * (x 1).val = q; omega
  unfold tbl
  rw [if_pos e0, e1]

/-- The block of w fetched at a point: the source device's rows, the point's columns. -/
theorem tr1 (c : Dev nD) (i : grid0.Coords) :
    cc0_transform_1 Gen.k0_off1_inb Gen.numel1_S1x1 (pfT (F := F) c) i = ![srcVal c.val (i 0).val, (i 1).val] := by
  have key : ∀ (c : Dev nD) (a : Fin 4) (b : Fin 8), (BitVec.ofNat 32 (srcVal c.val a.val)).toNat = srcVal c.val a.val
      ∧ (BitVec.ofNat 32 b.val).toNat = b.val := by decide
  have hw : (pfT (F := F) c).at 0 (Rect.unit (s := S2x4) ![0, (Scalar.indexCast (BitVec.ofNat 32 (i 0).val) : BitVec 32).toNat] S1x1.size (Gen.k0_off1_inb i)) Gen.numel1_S1x1
      = BitVec.ofNat 32 (srcVal c.val (i 0).val) := by
    refine tbl_at c _ _ (i 0).val ?_ _
    have hv : (Scalar.indexCast (BitVec.ofNat 32 (i 0).val) : BitVec 32).toNat = (i 0).val := by
      generalize i 0 = q; revert q; decide
    rw [hv]
  have k := key c (i 0) (i 1)
  unfold cc0_transform_1
  dsimp only
  rw [hw, k.1, k.2]

/-- At the table's contents every block of w lies inside w. -/
theorem ok_pfT (c : Dev nD) : ok0 (pfT (F := F) c) := fun i =>
  ⟨by
    have key : ∀ (c : Dev nD) (i : grid0.Coords) (a : Fin 2), ((![srcVal c.val (i 0).val, (i 1).val] : Fin 2 → ℕ) a + 1) * S1024x1024.size a ≤ S4096x8192.size a := by decide +kernel
    rw [tr1]; exact key c i, Or.inl rfl⟩

abbrev aT (c : Dev nD) (p : Fin 1) : (pcfgs (F := F) p).Adm := ⟨pfT c, ok_pfT c⟩
abbrev cfgT (c : Dev nD) : Cfg sig Λ₀ := cfg0 (F := F) ⟨pfT c, ok_pfT c⟩

/-- The phase and the column block of a point. -/
theorem coords_val : ∀ t : Fin grid0.N, (grid0.coords t 0).val = t.val / 8 ∧ (grid0.coords t 1).val = t.val % 8 := by decide +kernel

/-- The point of a phase and a column block. -/
def tOf (p j : ℕ) : Fin grid0.N := ⟨(8 * p + j) % 32, by rw [Gen.N_0]; omega⟩

variable (X : (c : Dev nD) → Buf (Elt F) ((c : Thread nD τ).loc main_arg0))
variable (W : (c : Dev nD) → Buf (Elt F) ((c : Thread nD τ).loc main_arg1))
variable (R : (c : Dev nD) → Buf (Elt F) ((c : Thread nD τ).loc main_v11))

/-- The block of the right operand fetched in a phase for a column block. -/
def Bk (c : Dev nD) (p j : ℕ) : Vec F S1024x1024 .f32 := (((cfgT (F := F) c).win 0).blk (tOf p j)).view.read (Elt F) (W c)

/-- The arrays at entry, by window. -/
def arr0 (c : Dev nD) : (w : Fin (cfgT (F := F) c).W) → Buf (Elt F) (((cfgT (F := F) c).win w).arr.view.loc (c.tc : Thread nD τ))
  | 0 => W c
  | 1 => R c
  | ⟨_ + 2, h⟩ => absurd h (Nat.not_lt.2 (Nat.le_add_left _ _))

/-- The staging buffers after the body, by window. -/
def aft0 (c : Dev nD) : (w : Fin (cfgT (F := F) c).W) → (t : Fin (cfgT (F := F) c).N) → ((cfgT (F := F) c).win w).block.Idx → Elt F ((cfgT (F := F) c).win w).elt
  | 0 => fun t => (((cfgT (F := F) c).win 0).blk t).view.read (Elt F) (W c)
  | 1 => fun t => outV X (Bk W) c (t.val % 8)
  | ⟨_ + 2, h⟩ => absurd h (Nat.not_lt.2 (Nat.le_add_left _ _))

/-- The proof data of the kernel's pipeline on a device. -/
def datT (c : Dev nD) : Dat τ (Elt F) Unit ℕ UU ℕ (cfgT (F := F) c) c where
  A := arr0 W R c
  after := aft0 X W c
  Φ t := Phi X (Bk W) c t.val
  q _ := fullShare
  owed t := owedAt c t.val

end Cert.A2A
end
-- ==== Proof.Obl.lean ====
module

public import proofs.«01_k».proof.Proof.Region
public import Idealize.ShloMosaic.Lib.Pipeline.FrameBody

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf pinD)
open Cert.KernelIdeal

variable {F : FTy → Type} [FloatOps F]

local notation "𝕄" => MT nD τ sig Unit (Elt F) ℕ UU ℕ

section Points
variable (X : (c : Dev nD) → Buf (Elt F) ((c : Thread nD τ).loc main_arg0)) (κ : GSem nD τ sig → ℕ)
variable (B : (c : Dev nD) → ℕ → ℕ → Vec F S1024x1024 .f32)

/-- The state of the exchange before the first point. -/
theorem St_0 (c : Dev nD) (n : ℕ) (h : n = 0) : St X c n = St0 X c := by unfold St; rw [if_pos h]
/-- The state of the exchange in phase 0 after its first point. -/
theorem St_1 (c : Dev nD) (n : ℕ) (h : 0 < n ∧ n ≤ 8) : St X c n = St1 X c := by unfold St; rw [if_neg (Nat.ne_of_gt h.1), if_pos h.2]
/-- The state of the exchange in phase 1 after its first point. -/
theorem St_2 (c : Dev nD) (n : ℕ) (h : 8 < n ∧ n ≤ 16) : St X c n = St2 X c := by
  unfold St; rw [if_neg (by omega : ¬ n = 0), if_neg (by omega : ¬ n ≤ 8), if_pos h.2]
/-- The state of the exchange in phase 2 after its first point. -/
theorem St_3 (c : Dev nD) (n : ℕ) (h : 16 < n ∧ n ≤ 24) : St X c n = St3 X c := by
  unfold St; rw [if_neg (by omega : ¬ n = 0), if_neg (by omega : ¬ n ≤ 8), if_neg (by omega : ¬ n ≤ 16), if_pos h.2]
/-- The state of the exchange in phase 3 after its first point. -/
theorem St_4 (c : Dev nD) (n : ℕ) (h : 24 < n ∧ n ≤ 31) : St X c n = St4 X c := by
  unfold St; rw [if_neg (by omega : ¬ n = 0), if_neg (by omega : ¬ n ≤ 8), if_neg (by omega : ¬ n ≤ 16), if_neg (by omega : ¬ n ≤ 24), if_pos h.2]
/-- The state of the exchange after the last point. -/
theorem St_5 (c : Dev nD) (n : ℕ) (h : 31 < n) : St X c n = St5 X c := by
  unfold St; rw [if_neg (by omega : ¬ n = 0), if_neg (by omega : ¬ n ≤ 8), if_neg (by omega : ¬ n ≤ 16), if_neg (by omega : ¬ n ≤ 24), if_neg (by omega : ¬ n ≤ 31)]
/-- Before the first point a device owes everything. -/
theorem owedAt_0 (c : Dev nD) (n : ℕ) (h : n = 0) : owedAt c n = O₀ c := by unfold owedAt; rw [if_pos h]
/-- In phase 0 after its first point a device owes the copy to the device opposite. -/
theorem owedAt_1 (c : Dev nD) (n : ℕ) (h : 0 < n ∧ n ≤ 8) : owedAt c n = OA c := by unfold owedAt; rw [if_neg (Nat.ne_of_gt h.1), if_pos h.2]
/-- After the first point of phase 1 a device owes nothing. -/
theorem owedAt_2 (c : Dev nD) (n : ℕ) (h : 8 < n) : owedAt c n = 0 := by unfold owedAt; rw [if_neg (by omega : ¬ n = 0), if_neg (by omega : ¬ n ≤ 8)]

/-- The body at a point of a phase, phase by phase. -/
theorem body_phase0 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j n : ℕ) (hp : (i 0).val = p) (hj : (i 1).val = j) (hn : n = 8 * p + j) (p0 : p = 0)
    (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare d5) -∗ Kt ⟨⟩))
      ⊢ wpB c (bodyAt i a4 h4 a5 h5) Kt := by
  have hp4 : p < 4 := hp ▸ (i 0).isLt
  have hj8 : j < 8 := hj ▸ (i 1).isLt
  rcases Nat.eq_zero_or_pos j with j0 | j0
  · obtain rfl : n = 0 := by omega
    rw [St_0 X c _ (by omega), St_1 X c _ (by omega), owedAt_0 c _ (by omega), owedAt_1 c _ (by omega)]
    exact body_A X κ B c i a4 h4 a5 h5 q4 d5 p j hp hj p0 j0 Kt
  · obtain rfl : n = j := by omega
    rw [St_1 X c _ (by omega), St_1 X c _ (by omega), owedAt_1 c _ (by omega), owedAt_1 c _ (by omega)]
    exact body_B X κ B c i a4 h4 a5 h5 q4 d5 p n hp hj p0 j0 Kt

/-- The body at the first point of phase 1 and the points after it. -/
theorem body_phase1 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j n : ℕ) (hp : (i 0).val = p) (hj : (i 1).val = j) (hn : n = 8 * p + j) (p0 : p = 1)
    (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare d5) -∗ Kt ⟨⟩))
      ⊢ wpB c (bodyAt i a4 h4 a5 h5) Kt := by
  have hp4 : p < 4 := hp ▸ (i 0).isLt
  have hj8 : j < 8 := hj ▸ (i 1).isLt
  rcases Nat.eq_zero_or_pos j with j0 | j0
  · obtain rfl : n = 8 := by omega
    rw [St_1 X c _ (by omega), St_2 X c _ (by omega), owedAt_1 c _ (by omega), owedAt_2 c _ (by omega)]
    exact body_C X κ B c i a4 h4 a5 h5 q4 d5 p j hp hj p0 j0 Kt
  · obtain rfl : n = 8 + j := by omega
    rw [St_2 X c _ (by omega), St_2 X c _ (by omega), owedAt_2 c _ (by omega), owedAt_2 c _ (by omega)]
    exact body_F1 X κ B c i a4 h4 a5 h5 q4 d5 p j hp hj p0 j0 Kt

/-- The body at the first point of phase 2 and the points after it. -/
theorem body_phase2 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j n : ℕ) (hp : (i 0).val = p) (hj : (i 1).val = j) (hn : n = 8 * p + j) (p0 : p = 2)
    (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare d5) -∗ Kt ⟨⟩))
      ⊢ wpB c (bodyAt i a4 h4 a5 h5) Kt := by
  have hp4 : p < 4 := hp ▸ (i 0).isLt
  have hj8 : j < 8 := hj ▸ (i 1).isLt
  rcases Nat.eq_zero_or_pos j with j0 | j0
  · obtain rfl : n = 16 := by omega
    rw [St_2 X c _ (by omega), St_3 X c _ (by omega), owedAt_2 c _ (by omega), owedAt_2 c _ (by omega)]
    exact body_D X κ B c i a4 h4 a5 h5 q4 d5 p j hp hj p0 j0 Kt
  · obtain rfl : n = 16 + j := by omega
    rw [St_3 X c _ (by omega), St_3 X c _ (by omega), owedAt_2 c _ (by omega), owedAt_2 c _ (by omega)]
    exact body_F2 X κ B c i a4 h4 a5 h5 q4 d5 p j hp hj p0 j0 Kt

/-- The body at the points of phase 3. -/
theorem body_phase3 (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j n : ℕ) (hp : (i 0).val = p) (hj : (i 1).val = j) (hn : n = 8 * p + j) (p0 : p = 3)
    (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare (outV X B c j)) -∗ Kt ⟨⟩))
      ⊢ wpB c (bodyAt i a4 h4 a5 h5) Kt := by
  have hp4 : p < 4 := hp ▸ (i 0).isLt
  have hj8 : j < 8 := hj ▸ (i 1).isLt
  rcases Nat.eq_zero_or_pos j with j0 | j0
  · obtain rfl : n = 24 := by omega
    rw [St_3 X c _ (by omega), St_4 X c _ (by omega), owedAt_2 c _ (by omega), owedAt_2 c _ (by omega)]
    exact body_E X κ B c i a4 h4 a5 h5 q4 d5 p j hp hj p0 j0 Kt
  · rcases Nat.lt_or_ge j 7 with j7 | j7
    · obtain rfl : n = 24 + j := by omega
      rw [St_4 X c _ (by omega), St_4 X c _ (by omega), owedAt_2 c _ (by omega), owedAt_2 c _ (by omega)]
      exact body_G X κ B c i a4 h4 a5 h5 q4 d5 p j hp hj p0 j0 j7 Kt
    · obtain rfl : n = 31 := by omega
      rw [St_4 X c _ (by omega), St_5 X c _ (by omega), owedAt_2 c _ (by omega), owedAt_2 c _ (by omega)]
      exact body_H X κ B c i a4 h4 a5 h5 q4 d5 p j hp hj p0 (by omega) Kt

/-- The body at any point: from what the device holds before it to what it holds after it; the output's staging
    buffer is written in the last phase only. -/
theorem body_all (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 : Vec F S1024x1024 .bf16) (p j n : ℕ) (hp : (i 0).val = p) (hj : (i 1).val = j) (hn : n = 8 * p + j)
    (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare (if p = 3 then outV X B c j else d5)) -∗ Kt ⟨⟩))
      ⊢ wpB c (bodyAt i a4 h4 a5 h5) Kt := by
  have hp4 : p < 4 := hp ▸ (i 0).isLt
  obtain p0 | p0 | p0 | p0 : p = 0 ∨ p = 1 ∨ p = 2 ∨ p = 3 := by omega
  · rw [if_neg (by omega : ¬ p = 3)]; exact body_phase0 X κ B c i a4 h4 a5 h5 q4 d5 p j n hp hj hn p0 Kt
  · rw [if_neg (by omega : ¬ p = 3)]; exact body_phase1 X κ B c i a4 h4 a5 h5 q4 d5 p j n hp hj hn p0 Kt
  · rw [if_neg (by omega : ¬ p = 3)]; exact body_phase2 X κ B c i a4 h4 a5 h5 q4 d5 p j n hp hj hn p0 Kt
  · rw [if_pos p0]; exact body_phase3 X κ B c i a4 h4 a5 h5 q4 d5 p j n hp hj hn p0 Kt
/-- The same, the staging buffer's new contents named. -/
theorem body_all' (c : Dev nD) (i : grid0.Coords) (a4 : Memref sig .tc .vmem S1024x1024 .f32) (h4 : a4.IsWhole) (a5 : Memref sig .tc .vmem S1024x1024 .bf16) (h5 : a5.IsWhole)
    (q4 : PosShare TreeShare) (d5 v5 : Vec F S1024x1024 .bf16) (p j n : ℕ) (hp : (i 0).val = p) (hj : (i 1).val = j) (hn : n = 8 * p + j)
    (hv : v5 = if p = 3 then outV X B c j else d5) (Kt : PUnit → sProp 𝕄) :
    iprop((records X κ ∗ levAts L lv ∗ tPts c ∗ accSt X B c n ∗ St X c n ∗ owesE c (owedAt c n) ∗ owns (c : Thread nD τ) a4 q4 (B c p j) ∗ owns (c : Thread nD τ) a5 fullShare d5)
      ∗ ((tPts c ∗ accSt X B c (n + 1) ∗ St X c (n + 1) ∗ owesE c (owedAt c (n + 1)) ∗ owns (c : Thread nD τ) a4 q4 (B c p j)
          ∗ owns (c : Thread nD τ) a5 fullShare v5) -∗ Kt ⟨⟩))
      ⊢ wpB c (bodyAt i a4 h4 a5 h5) Kt := by
  rw [hv]; exact body_all X κ B c i a4 h4 a5 h5 q4 d5 p j n hp hj hn Kt
end Points

variable (X : (c : Dev nD) → Buf (Elt F) ((c : Thread nD τ).loc main_arg0))
variable (W : (c : Dev nD) → Buf (Elt F) ((c : Thread nD τ).loc main_arg1))
variable (R : (c : Dev nD) → Buf (Elt F) ((c : Thread nD τ).loc main_v11))

/-- What a device owes is what the pipeline records at that point. -/
theorem owesAt_of {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ := by rfl) :
    (owesE c O : sProp 𝕄) ⊢ (dat.owesAt () t : sProp 𝕄) := by
  unfold owesE Dat.owesAt Pipeline.owesWithin Dat.bound; rw [h0, hr]
  iintro ⟨%Wd, HO⟩; iexists Wd; isplitr; · ipureintro; exact fun _ _ => Or.inl trivial
  iexact HO
/-- What the pipeline records at a point is what the device owes. -/
theorem owesAt_to {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ (owesE c O : sProp 𝕄) := by
  unfold owesE Dat.owesAt Pipeline.owesWithin; rw [h0]
  iintro ⟨%Wd, -, HO⟩; iexists Wd; iexact HO

/-- The result's block is written back at the points of the last phase alone. -/
theorem flush1 (c : Dev nD) (t : Fin grid0.N) : ((cfgT (F := F) c).win 1).flush t = decide (24 ≤ t.val) := by
  rw [Pipeline.Window.flush_eq_flushOf]
  have key : ∀ t : Fin grid0.N, Pipeline.Window.flushOf grid0 true cc0_transform_2 t = decide (24 ≤ t.val) := by decide +kernel
  exact key t

/-- The result's staging buffer is untouched in the first three phases. -/
theorem idle1 : ∀ t : Fin grid0.N, idle0 1 (grid0.coords t) = decide (t.val < 24) := by decide +kernel

/-- A point is that of its phase and its column block. -/
theorem tOf_div (t : Fin grid0.N) : tOf (t.val / 8) (t.val % 8) = t := by
  apply Fin.ext
  have h : t.val < 32 := lt_of_lt_of_eq t.isLt Gen.N_0
  show (8 * (t.val / 8) + t.val % 8) % 32 = t.val
  omega

/-- The right operand's staging buffer holds the block of its phase and column at every point. -/
theorem before0 (c : Dev nD) (t : Fin (cfgT (F := F) c).N) (d) : (datT X W R c).before 0 t d = Bk W c (t.val / 8) (t.val % 8) := by
  refine ((datT X W R c).before_in_eq_fetched 0 rfl (fun _ => rfl) (fun _ _ _ => rfl) (fun _ => rfl) t d).trans ?_
  show (((cfgT (F := F) c).win 0).blk t).view.read (Elt F) (W c) = (((cfgT (F := F) c).win 0).blk (tOf (t.val / 8) (t.val % 8))).view.read (Elt F) (W c)
  rw [tOf_div t]

/-- At an idle point that isn't written back the staging buffer is handed on as it was. -/
theorem leave_idle (i f : Bool) (A C : sProp 𝕄) : i = true → f = false →
    (A ⊢ (match i with | true => (match f with | false => A | true => C) | false => C : sProp 𝕄)) := by rintro rfl rfl; exact .rfl
/-- At a point that isn't idle the staging buffer is handed on as the body left it. -/
theorem leave_busy (i f : Bool) (A C : sProp 𝕄) : i = false →
    (C ⊢ (match i with | true => (match f with | false => A | true => C) | false => C : sProp 𝕄)) := by rintro rfl; exact .rfl

/-- The body at every point. -/
theorem body_obl (c : Dev nD) : BodyObligation (datT X W R c) (defs₀ (F := F)) 𝒱₀ () Set.univ := fun t => by
  rw [Gen.bigSep_W0, Gen.bigSep_W0]
  have hcv := coords_val t
  have hlt : t.val < 32 := lt_of_lt_of_eq t.isLt Gen.N_0
  have e : ∀ (s : Fin (grid0.N + 1)), (datT X W R c).Φ s = Phi X (Bk W) c s.val := fun _ => rfl
  rw [e, e]
  iintro ⟨⟨%κ, #HR, #Hlev, Ht, Ha, HS⟩, HO, ⟨%d0, H0⟩, ⟨%d1, H1⟩⟩
  rw [before0 X W R c t d0]
  ihave HO := (owesAt_to (datT X W R c) t.castSucc (owedAt c t.val) rfl) $$ HO
  obtain ⟨v, hv, hlo, hhi⟩ : ∃ v : Vec F S1024x1024 .bf16, (v = if t.val / 8 = 3 then outV X (Bk W) c (t.val % 8) else (datT X W R c).before 1 t d1)
      ∧ (t.val < 24 → v = (datT X W R c).before 1 t d1) ∧ (24 ≤ t.val → v = (datT X W R c).after 1 t) :=
    ⟨_, rfl, fun h => if_neg (by omega), fun h => if_pos (by omega)⟩
  iapply (body_all' X κ (Bk W) c (grid0.coords t) (spec0_0.stage ((cfgT (F := F) c).slots t 0)) (Facts₀.hstage0_0 _)
    (spec0_1.stage ((cfgT (F := F) c).slots t 1)) (Facts₀.hstage0_1 _) fullShare ((datT X W R c).before 1 t d1) v (t.val / 8) (t.val % 8) t.val hcv.1 hcv.2 (by omega) hv _)
  isplitl [Ht Ha HS HO H0 H1]
  · isplitr; · iexact HR
    isplitr; · iexact Hlev
    isplitl [Ht]; · iexact Ht
    isplitl [Ha]; · iexact Ha
    isplitl [HS]; · iexact HS
    isplitl [HO]; · iexact HO
    isplitl [H0]; · iexact H0
    iexact H1
  iintro ⟨Ht, Ha, HS, HO, H0, H1⟩
  isplitl [Ht Ha HS]
  · iexists κ
    isplitr; · iexact HR
    isplitr; · iexact Hlev
    isplitl [Ht]; · iexact Ht
    isplitl [Ha]; · iexact Ha
    iexact HS
  isplitl [HO]; · iapply (owesAt_of (datT X W R c) t.succ (owedAt c (t.val + 1)) rfl); iexact HO
  isplitl [H0]
  · have e0 : (datT X W R c).after 0 t = Bk W c (t.val / 8) (t.val % 8) := by
      show (((cfgT (F := F) c).win 0).blk t).view.read (Elt F) (W c) = (((cfgT (F := F) c).win 0).blk (tOf (t.val / 8) (t.val % 8))).view.read (Elt F) (W c)
      rw [tOf_div t]
    dsimp only
    rw [e0]
    iexact H0
  · have i1 : (cfgT (F := F) c).idle 1 ((cfgT (F := F) c).grid.coords t) = decide (t.val < 24) := idle1 t
    have f1 := flush1 (F := F) c t
    rcases Nat.lt_or_ge t.val 24 with h | h
    · obtain rfl := hlo h
      rw [decide_eq_true h] at i1; rw [decide_eq_false (by omega)] at f1
      refine BIBase.Entails.trans ?_ (leave_idle ((cfgT (F := F) c).idle 1 ((cfgT (F := F) c).grid.coords t)) (((cfgT (F := F) c).win 1).flush t) (iprop(∃ d, owns (c : Thread nD τ) (((cfgT (F := F) c).win 1).stage ((cfgT (F := F) c).slots t 1)) fullShare ((datT X W R c).before 1 t d)))
        (owns (c : Thread nD τ) (((cfgT (F := F) c).win 1).stage ((cfgT (F := F) c).slots t 1)) fullShare ((datT X W R c).after 1 t)) i1 f1)
      iintro ⟨-, H1⟩
      iexists d1
      iexact H1
    · obtain rfl := hhi h
      rw [decide_eq_false (by omega)] at i1
      refine BIBase.Entails.trans ?_ (leave_busy ((cfgT (F := F) c).idle 1 ((cfgT (F := F) c).grid.coords t)) (((cfgT (F := F) c).win 1).flush t) (iprop(∃ d, owns (c : Thread nD τ) (((cfgT (F := F) c).win 1).stage ((cfgT (F := F) c).slots t 1)) fullShare ((datT X W R c).before 1 t d)))
        (owns (c : Thread nD τ) (((cfgT (F := F) c).win 1).stage ((cfgT (F := F) c).slots t 1)) fullShare ((datT X W R c).after 1 t)) i1)
      iintro ⟨-, H1⟩
      iexact H1

end Cert.A2A
end
-- ==== Proof.Seg.lean ====
module

public import proofs.«01_k».proof.Proof.Obl

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf pinD)
open Cert.KernelIdeal

variable {F : FTy → Type} [FloatOps F]

local notation "𝕄" => MT nD τ sig Unit (Elt F) ℕ UU ℕ

/-! ## Whole scratch buffers and their slots -/

/-- The three slots make up the buffer. -/
theorem slots_cover : (Finset.univ : Finset (Fin 3)).biUnion (fun s => (rs s).set) = Finset.univ := by
  ext i
  simp only [Finset.mem_biUnion, Finset.mem_univ, true_and, iff_true]
  exact ⟨i 0, (mem_rs _ i).mpr rfl⟩
/-- Different slots share no element. -/
theorem slots_disjoint (s s' : Fin 3) (h : s ≠ s') : Disjoint (rs s).set (rs s').set := by
  rw [Finset.disjoint_left]
  intro i hi hi'
  exact h (Fin.ext (((mem_rs s i).mp hi).symm.trans ((mem_rs s' i).mp hi')))

/-- A conjunction over three indices, written out. -/
theorem fin3_sep (Φ : Fin 3 → sProp 𝕄) : bigSep Finset.univ Φ = iprop(Φ 0 ∗ Φ 1 ∗ Φ 2) :=
  bigSep_univ_eq_bigSepL [0, 1, 2] (by decide) (by decide) Φ

/-- A conjunction over seven indices, written out. -/
theorem fin7_sep (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The receive buffer is its three slots. -/
theorem comm_split (c : Dev nD) (f : Buf (Elt F) ((c : Thread nD τ).loc cc0_scratch1)) :
    ((c : Thread nD τ).loc cc0_scratch1 ↦{fullShare} f : sProp 𝕄) ⊢ iprop(cAny c 0 ∗ cAny c 1 ∗ cAny c 2) := by
  have e : ((c : Thread nD τ).loc cc0_scratch1 ↦{fullShare} f : sProp 𝕄)
      = bigSep Finset.univ fun s : Fin 3 => ((c : Thread nD τ).loc cc0_scratch1 ↦[(rs s).set]{fullShare} f : sProp 𝕄) := by
    have j := pointsTo_biUnion (Ix := Unit) (Name := ℕ) (U := UU) (Lvl := ℕ) (ℓ := (c : Thread nD τ).loc cc0_scratch1) (q := fullShare) (f := f)
      Finset.univ (fun s : Fin 3 => (rs s).set) (fun s _ s' _ h => slots_disjoint s s' h)
    rw [slots_cover] at j
    exact j
  rw [e]
  refine BIBase.Entails.trans (bigSep_mono (Ψ := fun s => cAny c s) fun s _ => ?_) (Entails.of_eq (fin3_sep _))
  unfold cAny
  rw [← cs_rs s]
  show (cPts c s f : sProp 𝕄) ⊢ iprop(∃ f, cPts c s f)
  iintro H
  iexists f; iexact H

/-- The three receive slots together are the receive buffer. -/
theorem comm_join (c : Dev nD) :
    iprop(cAny c 0 ∗ cAny c 1 ∗ cAny c 2 : sProp 𝕄) ⊢ iprop(∃ f, (c : Thread nD τ).loc cc0_scratch1 ↦{fullShare} f) := by
  unfold cAny
  iintro ⟨⟨%f0, H0⟩, ⟨%f1, H1⟩, ⟨%f2, H2⟩⟩
  have j := pointsTo_biUnion_join (Ix := Unit) (Name := ℕ) (U := UU) (Lvl := ℕ) (ℓ := (c : Thread nD τ).loc cc0_scratch1) (q := fullShare) Finset.univ (fun s : Fin 3 => (rs s).set)
    (fun s : Fin 3 => if s = 0 then f0 else if s = 1 then f1 else f2) f0 (fun s _ s' _ h => slots_disjoint s s' h)
  rw [slots_cover, fin3_sep, ← cs_rs 0, ← cs_rs 1, ← cs_rs 2] at j
  ihave H := j $$ [H0 H1 H2]
  · isplitl [H0]; · iexact H0
    isplitl [H1]; · iexact H1
    iexact H2
  icases H with ⟨%g, -, H⟩
  iexists g; iexact H

/-- The send buffer is its three slots. -/
theorem send_split (c : Dev nD) (f : Buf (Elt F) ((c : Thread nD τ).loc cc0_scratch3)) :
    ((c : Thread nD τ).loc cc0_scratch3 ↦{fullShare} f : sProp 𝕄) ⊢ iprop(sAny c 0 ∗ sAny c 1 ∗ sAny c 2) := by
  have e : ((c : Thread nD τ).loc cc0_scratch3 ↦{fullShare} f : sProp 𝕄)
      = bigSep Finset.univ fun s : Fin 3 => ((c : Thread nD τ).loc cc0_scratch3 ↦[(rs s).set]{fullShare} f : sProp 𝕄) := by
    have j := pointsTo_biUnion (Ix := Unit) (Name := ℕ) (U := UU) (Lvl := ℕ) (ℓ := (c : Thread nD τ).loc cc0_scratch3) (q := fullShare) (f := f)
      Finset.univ (fun s : Fin 3 => (rs s).set) (fun s _ s' _ h => slots_disjoint s s' h)
    rw [slots_cover] at j
    exact j
  rw [e]
  refine BIBase.Entails.trans (bigSep_mono (Ψ := fun s => sAny c s) fun s _ => ?_) (Entails.of_eq (fin3_sep _))
  unfold sAny
  rw [← ss_rs s]
  show (sPts c s f : sProp 𝕄) ⊢ iprop(∃ f, sPts c s f)
  iintro H
  iexists f; iexact H

/-- The three send slots together are the send buffer. -/
theorem send_join (c : Dev nD) :
    iprop(sAny c 0 ∗ sAny c 1 ∗ sAny c 2 : sProp 𝕄) ⊢ iprop(∃ f, (c : Thread nD τ).loc cc0_scratch3 ↦{fullShare} f) := by
  unfold sAny
  iintro ⟨⟨%f0, H0⟩, ⟨%f1, H1⟩, ⟨%f2, H2⟩⟩
  have j := pointsTo_biUnion_join (Ix := Unit) (Name := ℕ) (U := UU) (Lvl := ℕ) (ℓ := (c : Thread nD τ).loc cc0_scratch3) (q := fullShare) Finset.univ (fun s : Fin 3 => (rs s).set)
    (fun s : Fin 3 => if s = 0 then f0 else if s = 1 then f1 else f2) f0 (fun s _ s' _ h => slots_disjoint s s' h)
  rw [slots_cover, fin3_sep, ← ss_rs 0, ← ss_rs 1, ← ss_rs 2] at j
  ihave H := j $$ [H0 H1 H2]
  · isplitl [H0]; · iexact H0
    isplitl [H1]; · iexact H1
    iexact H2
  icases H with ⟨%g, -, H⟩
  iexists g; iexact H

/-! ## What is dealt to a device at launch -/

variable (X : (c : Dev nD) → Buf (Elt F) ((c : Thread nD τ).loc main_arg0))
variable (W : (c : Dev nD) → Buf (Elt F) ((c : Thread nD τ).loc main_arg1))
variable (R : (c : Dev nD) → Buf (Elt F) ((c : Thread nD τ).loc main_v11))

/-- The tokens of the duties a device pays. -/
def pays (c : Dev nD) : sProp 𝕄 :=
  iprop((dutyTok ER (barCell (sh c 1)) 0 0 ∗ dutyTok ER (barCell (sh c 2)) 0 1 ∗ dutyTok ER (barCell (sh c 3)) 0 2)
    ∗ (dutyTok ER (sendCell c 0) 0 0 ∗ dutyTok ER (sendCell c 1) 0 0 ∗ dutyTok ER (sendCell c 2) 0 0)
    ∗ (dutyTok ER (recvCell (sh c 1) 2) 0 0 ∗ dutyTok ER (recvCell (sh c 2) 1) 0 0 ∗ dutyTok ER (recvCell (sh c 3) 0) 0 0)
    ∗ (dutyTok ER (locCell c) 0 0 ∗ dutyTok ER (locCell c) 1 0 ∗ dutyTok ER (locCell c) 2 0 ∗ dutyTok ER (locCell c) 3 0))

/-- The rights to open a device's scoped cells. -/
def opens (c : Dev nD) : sProp 𝕄 :=
  iprop(openTok ER (sendCell c 0) ∗ openTok ER (sendCell c 1) ∗ openTok ER (sendCell c 2)
    ∗ openTok ER (recvCell c 0) ∗ openTok ER (recvCell c 1) ∗ openTok ER (recvCell c 2) ∗ openTok ER (locCell c))

def linear (c : Dev nD) : sProp 𝕄 := iprop(atPos ER (barCell c) 0 ∅ 0 ∗ opens c ∗ pays c)

/-- The credits a device waits with. -/
def credsOf (c : Dev nD) : sProp 𝕄 :=
  iprop(cred (tallyAt (barCell c) () 3) ∗ cred (tallyAt (recvCell c 0) () NS) ∗ cred (tallyAt (recvCell c 1) () NS) ∗ cred (tallyAt (recvCell c 2) () NS))

/-- The scoped cells opened: positions and first rounds. -/
def opened (c : Dev nD) : sProp 𝕄 :=
  iprop((atPos ER (sendCell c 0) 0 ∅ 0 ∗ reached ER (sendCell c 0) 0) ∗ (atPos ER (sendCell c 1) 0 ∅ 0 ∗ reached ER (sendCell c 1) 0) ∗ (atPos ER (sendCell c 2) 0 ∅ 0 ∗ reached ER (sendCell c 2) 0)
    ∗ (atPos ER (recvCell c 0) 0 ∅ 0 ∗ reached ER (recvCell c 0) 0) ∗ (atPos ER (recvCell c 1) 0 ∅ 0 ∗ reached ER (recvCell c 1) 0) ∗ (atPos ER (recvCell c 2) 0 ∅ 0 ∗ reached ER (recvCell c 2) 0)
    ∗ (atPos ER (locCell c) 0 ∅ 0 ∗ reached ER (locCell c) 0))

/-- The kernel's scoped semaphores at zero, written out. -/
theorem own_eq (c : Dev nD) : (Pipeline.ownSems0 osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0 ∗ semVal (locCell c) 0) :=
  fin7_sep _

/-- One cell opened. -/
theorem open1 (κ : GSem nD τ sig → ℕ) {g : GSem nD τ sig} (h : g ∈ barCells ∪ scCells) :
    iprop(records X κ ∗ openTok ER g ∗ semVal g 0) ⊢ (|={Set.univ}=> iprop(atPos ER g 0 ∅ 0 ∗ reached ER g 0) : sProp 𝕄) :=
  (sep_mono_left (inv_at X κ h)).trans (Rounds.cell_open ER (a2aRd X) (g := g) (Set.mem_univ (κ g)))

/-- On entry the kernel's scoped semaphores, at zero, open the cells of the exchange. -/
theorem opening (κ : GSem nD τ sig → ℕ) (c : Dev nD) :
    iprop(records X κ ∗ opens c ∗ Pipeline.ownSems0 osem c) ⊢ (|={Set.univ}=> opened c : sProp 𝕄) := by
  rw [own_eq]
  unfold opens opened
  iintro ⟨#HR, ⟨O1, O2, O3, O4, O5, O6, O7⟩, ⟨S1, S2, S3, S4, S5, S6, S7⟩⟩
  imod (open1 X κ (Finset.mem_union_right _ (send_mem c 0))) $$ [O1 S1] with H1
  · isplitr; · iexact HR
    isplitl [O1] <;> iassumption
  imod (open1 X κ (Finset.mem_union_right _ (send_mem c 1))) $$ [O2 S2] with H2
  · isplitr; · iexact HR
    isplitl [O2] <;> iassumption
  imod (open1 X κ (Finset.mem_union_right _ (send_mem c 2))) $$ [O3 S3] with H3
  · isplitr; · iexact HR
    isplitl [O3] <;> iassumption
  imod (open1 X κ (Finset.mem_union_right _ (recv_mem c 0))) $$ [O4 S4] with H4
  · isplitr; · iexact HR
    isplitl [O4] <;> iassumption
  imod (open1 X κ (Finset.mem_union_right _ (recv_mem c 1))) $$ [O5 S5] with H5
  · isplitr; · iexact HR
    isplitl [O5] <;> iassumption
  imod (open1 X κ (Finset.mem_union_right _ (recv_mem c 2))) $$ [O6 S6] with H6
  · isplitr; · iexact HR
    isplitl [O6] <;> iassumption
  imod (open1 X κ (Finset.mem_union_right _ (loc_mem c))) $$ [O7 S7] with H7
  · isplitr; · iexact HR
    isplitl [O7] <;> iassumption
  imodintro
  isplitl [H1]; · iexact H1
  isplitl [H2]; · iexact H2
  isplitl [H3]; · iexact H3
  isplitl [H4]; · iexact H4
  isplitl [H5]; · iexact H5
  isplitl [H6]; · iexact H6
  iexact H7

/-! ## Entering and leaving the pipeline's invariant -/

/-- What enters the invariant beside the table and the scratch buffers; what it gives back beside them. -/
def Xk (c : Dev nD) : sProp 𝕄 :=
  iprop(∃ κ, records X κ ∗ levAts L lv ∗ xPts X c ∗ atPos ER (barCell c) 0 ∅ 0 ∗ opened c ∗ pays c ∗ credsOf c)
def Yk (c : Dev nD) : sProp 𝕄 := iprop(tPts c ∗ xPts X c ∗ semVal (barCell c) 0)

/-- The prefetched contents are the table. -/
theorem pref_eq (c : Dev nD) : (Pipeline.prefHeld pre0 c (fun _ => fullShare) (pfT (F := F) c) : sProp 𝕄) = tPts c :=
  bigSep_univ_eq_bigSepL [(0 : Fin 1)] (by decide) (by decide) _

/-- What the kernel enters with is the state before the first point. -/
theorem hin (c : Dev nD) : iprop(Xk X c ∗ Pipeline.prefHeld pre0 c (fun _ => fullShare) (pfT (F := F) c) ∗ Pipeline.scopedRest spec0 c)
    ⊢ Phi X (Bk W) c 0 := by
  rw [pref_eq, Gen.scopedRest0_eq]
  unfold Xk opened pays credsOf Phi accSt
  rw [St_0 X c 0 rfl]
  iintro ⟨⟨%κ, #HR, #Hlev, Hx, Hb, ⟨⟨s0, #s0r⟩, ⟨s1, #s1r⟩, ⟨s2, #s2r⟩, ⟨r0, #r0r⟩, ⟨r1, #r1r⟩, ⟨r2, #r2r⟩, ⟨l, #lr⟩⟩,
    ⟨⟨b1, b2, b3⟩, ⟨p0, p1, p2⟩, ⟨q1, q2, q3⟩, ⟨l0, l1, l2, l3⟩⟩, ⟨cb, c0, c1, c2⟩⟩, Ht, ⟨⟨%fa, Ha⟩, ⟨%fc, Hc⟩, Hh, ⟨%fs, Hs⟩⟩⟩
  ihave Hc := (comm_split c fc) $$ Hc
  icases Hc with ⟨Hc0, Hc1, Hc2⟩
  ihave Hs := (send_split c fs) $$ Hs
  icases Hs with ⟨Hs0, Hs1, Hs2⟩
  iexists κ
  isplitr; · iexact HR
  isplitr; · iexact Hlev
  isplitl [Ht]; · iexact Ht
  isplitl [Ha]
  · iexists fa; isplitr
    · ipureintro; exact fun j p _ h _ => absurd h (Nat.not_lt_zero _)
    iexact Ha
  isplitl [Hh]; · iexact Hh
  isplitl [Hx]; · iexact Hx
  isplitl [Hc0]
  · isplitl [Hc0]; · iexact Hc0
    iexact r0r
  isplitl [Hc1]
  · isplitl [Hc1]; · iexact Hc1
    iexact r1r
  isplitl [Hc2]
  · isplitl [Hc2]; · iexact Hc2
    iexact r2r
  isplitl [Hs0]; · iexact Hs0
  isplitl [Hs1]; · iexact Hs1
  isplitl [Hs2]; · iexact Hs2
  isplitl [Hb cb]; · isplitl [Hb] <;> iassumption
  isplitl [b1]; · iexact b1
  isplitl [b2]; · iexact b2
  isplitl [b3]; · iexact b3
  isplitl [s0 p0 q1]
  · isplitl [s0]; · iexact s0
    isplitr; · iexact s0r
    isplitl [p0]; · iexact p0
    iexact q1
  isplitl [s1 p1 q2]
  · isplitl [s1]; · iexact s1
    isplitr; · iexact s1r
    isplitl [p1]; · iexact p1
    iexact q2
  isplitl [s2 p2 q3]
  · isplitl [s2]; · iexact s2
    isplitr; · iexact s2r
    isplitl [p2]; · iexact p2
    iexact q3
  isplitl [l]
  · isplitl [l]; · iexact l
    iexact lr
  isplitl [l0]; · iexact l0
  isplitl [l1]; · iexact l1
  isplitl [l2]; · iexact l2
  isplitl [l3]; · iexact l3
  isplitl [r0 c0]; · isplitl [r0] <;> iassumption
  isplitl [r1 c1]; · isplitl [r1] <;> iassumption
  isplitl [r2] <;> iassumption

/-- The state after the last point is what the kernel leaves with. -/
theorem hout (c : Dev nD) : Phi X (Bk W) c 32 ⊢ iprop(Yk X c ∗ Pipeline.ownSems0 osem c ∗ Pipeline.scopedRest spec0 c) := by
  rw [own_eq, Gen.scopedRest0_eq]
  unfold Yk Phi accSt
  rw [St_5 X c 32 (by omega)]
  iintro ⟨%κ, -, -, Ht, ⟨%fa, -, Ha⟩, Hh, Hx, Hb, ⟨s0, s1, s2⟩, ⟨r0, r1, r2⟩, l, Hc, Hs⟩
  ihave Hc := (comm_join c) $$ Hc
  ihave Hs := (send_join c) $$ Hs
  isplitl [Ht Hx Hb]
  · isplitl [Ht]; · iexact Ht
    isplitl [Hx] <;> iassumption
  isplitl [s0 s1 s2 r0 r1 r2 l]
  · isplitl [s0]; · iexact s0
    isplitl [s1]; · iexact s1
    isplitl [s2]; · iexact s2
    isplitl [r0]; · iexact r0
    isplitl [r1]; · iexact r1
    isplitl [r2] <;> iassumption
  isplitl [Ha]; · iexists fa; iexact Ha
  isplitl [Hc]; · iexact Hc
  isplitl [Hh]; · iexact Hh
  iexact Hs

/-! ## The wait evidence -/

abbrev pdT (p : Fin 1) (c : Dev nD) : Dat τ (Elt F) Unit ℕ UU ℕ (pinD (pcfgs (F := F)) aT c p) c := datT X W R c

/-- What a device owes at any point lies above level 0. -/
theorem above_at (c : Dev nD) (n : ℕ) : Above 0 (owedAt c n) := by
  unfold owedAt
  split
  · exact above_0 c
  split
  · exact (above_A c).mono (Nat.zero_le 1)
  · exact Above.zero 0

/-- The staging buffers' semaphores lie at level 0. -/
theorem lv_stage (c : Dev nD) : ∀ (w : Fin 2) (s : Fin (spec0 w).nbuf), lv ((c : Thread nD τ), .dma ((spec0 w).sem s)) () ≤ 0 := by
  have h : ∀ (w : Fin 2) (s : Fin (spec0 w).nbuf), (if ((spec0 w).sem s).val = 7 ∨ ((spec0 w).sem s).val = 8 ∨ ((spec0 w).sem s).val = 9 then 2 else 0) ≤ 0 := by decide
  exact h

/-- The pipeline may wait on its staging buffers' semaphores under all that is owed. -/
theorem hwaits (c : Dev nD) : (levAts L lv : sProp 𝕄) ⊢ Pipeline.PerCore.cellsWaits (pinD (pcfgs (F := F)) aT) (pdT X W R) () 0 c :=
  Pipeline.PerCore.cellsWaits_intro (pinD (pcfgs (F := F)) aT) (pdT X W R) () 0 c fun w s t =>
    mayWait c (.dma ((spec0 w).sem s)) 0 (lv_stage c w s) (owedAt c t.val) (above_at c t.val)

end Cert.A2A
end
-- ==== Proof.Launch.lean ====
module

public import proofs.«01_k».proof.Proof.Seg
public import proofs.«01_k».proof.Proof.Gen.KernelIdeal.Regions
public import Idealize.ShloMosaic.Lib.Quiescent

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf pinD)
open Cert.KernelIdeal

variable {F : FTy → Type} [FloatOps F]

local notation "𝕄" => MT nD τ sig Unit (Elt F) ℕ UU ℕ

variable (m : (ℓ : Loc nD τ sig) → Buf (Elt F) ℓ)

/-! ## The buffers the region touches -/

/-- The contents of x, of w and of the result's buffer on each device when the region is entered. -/
abbrev Xm (c : Dev nD) : Buf (Elt F) ((c : Thread nD τ).loc main_arg0) := Gen.V3 m c main_arg0
abbrev Wm (c : Dev nD) : Buf (Elt F) ((c : Thread nD τ).loc main_arg1) := Gen.V3 m c main_arg1
abbrev Rm (c : Dev nD) : Buf (Elt F) ((c : Thread nD τ).loc main_v11) := Gen.V3 m c main_v11

abbrev pdM (p : Fin 1) (c : Dev nD) : Dat τ (Elt F) Unit ℕ UU ℕ (pinD (pcfgs (F := F)) aT c p) c := pdT (Xm m) (Wm m) (Rm m) p c

/-- What the region leaves in the result's buffer. -/
def res (c : Dev nD) : Buf (Elt F) ((c : Thread nD τ).loc main_v11) := (datT (Xm m) (Wm m) (Rm m) c).arrAt 1 grid0.N

/-- A device's buffers after the region. -/
abbrev Vend (c : Dev nD) : Valuation τ sig (Elt F) := Function.update (Gen.V3 m c) main_v11 (res m c)

/-- The buffers the region touches. -/
def T4 : Finset (DevRef τ sig) := {Proc.devRef .tc main_arg0, Proc.devRef .tc main_arg1, Proc.devRef .tc main_v10, Proc.devRef .tc main_v11}

/-- The four buffers that the region touches are among those that the host program holds. -/
theorem T4_sub : T4 ⊆ Pipeline.ucRefs τ sig := by
  intro b hb
  unfold T4 at hb
  rw [Finset.mem_insert, Finset.mem_insert, Finset.mem_insert, Finset.mem_singleton] at hb
  rcases hb with rfl | rfl | rfl | rfl <;> exact Finset.mem_filter.mpr ⟨StableHlo.devRef_mem_tcRefs _, by decide⟩

/-- Holding those four buffers, written out. -/
theorem held4 (c : Dev nD) (V : Valuation τ sig (Elt F)) : (StableHlo.held (c : Thread nD τ) T4 V : sProp 𝕄)
    = iprop(((c : Thread nD τ).loc main_arg0 ↦{fullShare} (V main_arg0 : Buf (Elt F) ((c : Thread nD τ).loc main_arg0)))
        ∗ ((c : Thread nD τ).loc main_arg1 ↦{fullShare} (V main_arg1 : Buf (Elt F) ((c : Thread nD τ).loc main_arg1)))
        ∗ ((c : Thread nD τ).loc main_v10 ↦{fullShare} (V main_v10 : Buf (Elt F) ((c : Thread nD τ).loc main_v10)))
        ∗ ((c : Thread nD τ).loc main_v11 ↦{fullShare} (V main_v11 : Buf (Elt F) ((c : Thread nD τ).loc main_v11)))) := by
  unfold StableHlo.held T4
  rw [bigSep_insert (by decide), bigSep_insert (by decide), bigSep_insert (by decide), bigSep_singleton]
  rfl

/-- Every buffer but the result is after the region as before it. -/
theorem Vend_off (c : Dev nD) (b : DevRef τ sig) (h : b ≠ Proc.devRef .tc main_v11) : Vend m c b = Gen.V3 m c b :=
  Function.update_of_ne h _ _
/-- The result buffer holds after the region what the pipeline left there. -/
theorem Vend_v11 (c : Dev nD) : Vend m c main_v11 = res m c := Function.update_self _ _ _

/-- The region's arrays are w's buffer and the result's. -/
theorem arrays2 (c : Dev nD) (A : (w : Fin (cfgT (F := F) c).W) → Buf (Elt F) (((cfgT (F := F) c).win w).arr.view.loc (c.tc : Thread nD τ)))
    (a0 : Buf (Elt F) ((c : Thread nD τ).loc main_arg1)) (a1 : Buf (Elt F) ((c : Thread nD τ).loc main_v11)) (h0 : A 0 = a0) (h1 : A 1 = a1) :
    ((datT (Xm m) (Wm m) (Rm m) c).arrays A : sProp 𝕄)
      = iprop(((c : Thread nD τ).loc main_arg1 ↦{fullShare} a0) ∗ ((c : Thread nD τ).loc main_v11 ↦{fullShare} a1)) := by
  subst h0 h1
  unfold Dat.arrays
  rw [Gen.bigSep_W0]
  have e0 := congrArg (fun S => (((c : Thread nD τ).loc main_arg1) ↦[S]{fullShare} (A 0 : Buf (Elt F) ((c : Thread nD τ).loc main_arg1)) : sProp 𝕄)) (View.set_whole (sig := sig) (κ := .tc) main_arg1)
  have e1 := congrArg (fun S => (((c : Thread nD τ).loc main_v11) ↦[S]{fullShare} (A 1 : Buf (Elt F) ((c : Thread nD τ).loc main_v11)) : sProp 𝕄)) (View.set_whole (sig := sig) (κ := .tc) main_v11)
  exact congr (congrArg BIBase.sep e0) e1

/-- A device's buffers: the four the region touches, and the rest. -/
theorem split4 (c : Dev nD) (V : Valuation τ sig (Elt F)) (v0 : Buf (Elt F) ((c : Thread nD τ).loc main_arg0)) (v1 : Buf (Elt F) ((c : Thread nD τ).loc main_arg1))
    (v2 : Buf (Elt F) ((c : Thread nD τ).loc main_v10)) (v3 : Buf (Elt F) ((c : Thread nD τ).loc main_v11))
    (h0 : V main_arg0 = v0) (h1 : V main_arg1 = v1) (h2 : V main_v10 = v2) (h3 : V main_v11 = v3) :
    (StableHlo.held (c : Thread nD τ) (Pipeline.ucRefs τ sig) V : sProp 𝕄)
    = iprop((((c : Thread nD τ).loc main_arg0 ↦{fullShare} v0) ∗ ((c : Thread nD τ).loc main_arg1 ↦{fullShare} v1)
        ∗ ((c : Thread nD τ).loc main_v10 ↦{fullShare} v2) ∗ ((c : Thread nD τ).loc main_v11 ↦{fullShare} v3))
        ∗ StableHlo.held (c : Thread nD τ) (Pipeline.ucRefs τ sig \ T4) V) := by
  subst h0 h1 h2 h3
  rw [StableHlo.held_sub_split (c : Thread nD τ) T4_sub V, held4]

/-! ## The region -/

/-- What rides along the host operations to the region. -/
def E0 (c : Dev nD) : sProp 𝕄 := iprop((∃ κ, records (Xm m) κ ∗ linear c) ∗ credsOf c ∗ owesE c (O₀ c))
abbrev Zk (c : Dev nD) : sProp 𝕄 := StableHlo.held (c : Thread nD τ) (Pipeline.ucRefs τ sig \ T4) (Gen.V3 m c)
abbrev preR (c : Dev nD) : sProp 𝕄 := iprop(StableHlo.held (c : Thread nD τ) (Pipeline.ucRefs τ sig) (Gen.V3 m c) ∗ E0 m c)
abbrev postR (c : Dev nD) : sProp 𝕄 :=
  iprop((StableHlo.held (c : Thread nD τ) (Pipeline.ucRefs τ sig) (Vend m c) ∗ semVal (barCell c) 0) ∗ ∃ Wd, owes (c : Thread nD τ) (0 : CellTallies nD τ sig Unit) Wd)

/-- What the host program holds is what the region asks for. -/
theorem hentry (c : Dev nD) : iprop(preR m c ∗ Pipeline.ownSems0 osem c ∗ levAts L lv)
    ⊢ (|={Set.univ}=> iprop((datT (Xm m) (Wm m) (Rm m) c).arrays ((datT (Xm m) (Wm m) (Rm m) c).arrAt · 0)
        ∗ Pipeline.prefHeld pre0 c (fun _ => fullShare) (pfT (F := F) c)
        ∗ (datT (Xm m) (Wm m) (Rm m) c).owesAt () 0 ∗ Xk (Xm m) c ∗ Zk m c) : sProp 𝕄) := by
  unfold preR
  rw [pref_eq, split4 c (Gen.V3 m c) (Xm m c) (Wm m c) (tbl c : Buf (Elt F) ((c : Thread nD τ).loc main_v10)) (Rm m c) rfl rfl (V3_v10 m c) rfl]
  unfold E0 linear Xk
  iintro ⟨⟨⟨⟨Hx, Hw, Ht, Hr⟩, HZ⟩, ⟨%κ, #HR, Hb, Ho, Hp⟩, Hc, HO⟩, Hs, #Hlev⟩
  imod (opening (Xm m) κ c) $$ [Ho Hs] with Hop
  · isplitr; · iexact HR
    isplitl [Ho] <;> iassumption
  imodintro
  isplitl [Hw Hr]
  · iapply (Entails.of_eq (arrays2 m c ((datT (Xm m) (Wm m) (Rm m) c).arrAt · 0) (Wm m c) (Rm m c) rfl rfl).symm)
    isplitl [Hw]; · iexact Hw
    iexact Hr
  isplitl [Ht]; · iexact Ht
  isplitl [HO]; · iapply (owesAt_of (datT (Xm m) (Wm m) (Rm m) c) 0 (O₀ c) rfl); iexact HO
  isplitr [HZ]
  · iexists κ
    isplitr; · iexact HR
    isplitr; · iexact Hlev
    isplitl [Hx]; · iexact Hx
    isplitl [Hb]; · iexact Hb
    isplitl [Hop]; · iexact Hop
    isplitl [Hp] <;> iassumption
  iexact HZ

/-- What the region gives back is what the host program goes on with. -/
theorem hexit (c : Dev nD) : iprop((datT (Xm m) (Wm m) (Rm m) c).arrays ((datT (Xm m) (Wm m) (Rm m) c).arrAt · grid0.N)
      ∗ (datT (Xm m) (Wm m) (Rm m) c).owesAt () (Fin.last grid0.N) ∗ Yk (Xm m) c ∗ Zk m c)
    ⊢ (|={Set.univ}=> postR m c : sProp 𝕄) := by
  have eW : (datT (Xm m) (Wm m) (Rm m) c).arrAt 0 grid0.N = Wm m c := (datT (Xm m) (Wm m) (Rm m) c).arrAt_in 0 rfl grid0.N
  have eZ : (StableHlo.held (c : Thread nD τ) (Pipeline.ucRefs τ sig \ T4) (Vend m c) : sProp 𝕄) = Zk m c :=
    StableHlo.held_congr (c : Thread nD τ) (S := Pipeline.ucRefs τ sig \ T4) (V := Vend m c) (V' := Gen.V3 m c) fun b hb => Vend_off m c b fun h =>
      (Finset.mem_sdiff.mp hb).2 (by rw [h]; decide)
  unfold postR
  rw [split4 c (Vend m c) (Xm m c) (Wm m c) (tbl c : Buf (Elt F) ((c : Thread nD τ).loc main_v10)) (res m c)
    (Vend_off m c (Proc.devRef .tc main_arg0) (by decide)) (Vend_off m c (Proc.devRef .tc main_arg1) (by decide))
    ((Vend_off m c (Proc.devRef .tc main_v10) (by decide)).trans (V3_v10 m c)) (Vend_v11 m c), eZ,
    arrays2 m c ((datT (Xm m) (Wm m) (Rm m) c).arrAt · grid0.N) (Wm m c) (res m c) eW rfl]
  unfold Yk
  iintro ⟨⟨Hw, Hr⟩, HO, ⟨Ht, Hx, Hb⟩, HZ⟩
  imodintro
  ihave HO := (owesAt_to (datT (Xm m) (Wm m) (Rm m) c) (Fin.last grid0.N) 0 rfl) $$ HO
  isplitr [HO]
  · isplitr [Hb]
    · isplitr [HZ]
      · isplitl [Hx]; · iexact Hx
        isplitl [Hw]; · iexact Hw
        isplitl [Ht]; · iexact Ht
        iexact Hr
      iexact HZ
    iexact Hb
  unfold owesE
  iexact HO

set_option backward.isDefEq.respectTransparency.types false in
/-- The region as a segment of @main. -/
def reg : Pipeline.PerCore.RegionSeg (pcfgs (F := F)) aT (pdM m) () (defs₀ (F := F)) 𝒱₀ L lv 0 where
  win := Gen.winFacts0.to₀
  block_pos := Gen.block_pos0
  stage_whole := Gen.stage_whole0
  K := Fin 7
  osem := osem
  ho := (by decide : Pipeline.OwnSemFacts spec0 osem)
  hbody c := (body_obl (Xm m) (Wm m) (Rm m) c).loose
  hwaits c := hwaits (Xm m) (Wm m) (Rm m) c
  pre := preR m
  post := postR m
  X := Xk (Xm m)
  Y := Yk (Xm m)
  Z := Zk m
  hentry c := hentry m c
  hin c := hin (Xm m) (Wm m) c
  hout c := hout (Xm m) (Wm m) c
  hexit c := hexit m c

end Cert.A2A
end
-- ==== Proof.Exec.lean ====
module

public import proofs.«01_k».proof.Proof.Launch
public import Idealize.ShloMosaic.Harness.Basic

@[expose] public section

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf pinD)
open Cert.KernelIdeal

variable {F : FTy → Type} [FloatOps F]

local notation "𝕄" => MT nD τ sig Unit (Elt F) ℕ UU ℕ

variable (m : (ℓ : Loc nD τ sig) → Buf (Elt F) ℓ) (ρ : Dev nD → PrngReg)

/-! ## The duties' tokens -/

/-- A device's duty tokens: their semaphores, rounds and duties. -/
abbrev tk : Fin 13 → SemLoc sig × ℕ × Fin 3
  | 0 => (.reg barS, 0, 0) | 1 => (.reg barS, 0, 1) | 2 => (.reg barS, 0, 2)
  | 3 => (.dma (sendS 0), 0, 0) | 4 => (.dma (sendS 1), 0, 0) | 5 => (.dma (sendS 2), 0, 0)
  | 6 => (.dma (recvS 2), 0, 0) | 7 => (.dma (recvS 1), 0, 0) | 8 => (.dma (recvS 0), 0, 0)
  | 9 => (.dma locS, 0, 0) | 10 => (.dma locS, 1, 0) | 11 => (.dma locS, 2, 0) | 12 => (.dma locS, 3, 0)
/-- The thirteen tokens of a device are for thirteen different duties. -/
theorem tk_inj : Function.Injective tk := by decide

def tokEmb : Dev nD × Fin 13 ↪ GSem nD τ sig × ℕ × Fin 3 :=
  ⟨fun p => (((p.1 : Thread nD τ), (tk p.2).1), (tk p.2).2.1, (tk p.2).2.2), fun p q h =>
    Prod.ext (congrArg (fun t : GSem nD τ sig × ℕ × Fin 3 => t.1.1.1) h)
      (tk_inj (Prod.ext (congrArg (fun t : GSem nD τ sig × ℕ × Fin 3 => t.1.2) h)
        (Prod.ext (congrArg (fun t : GSem nD τ sig × ℕ × Fin 3 => t.2.1) h) (congrArg (fun t : GSem nD τ sig × ℕ × Fin 3 => t.2.2) h))))⟩
def allToks : Finset (GSem nD τ sig × ℕ × Fin 3) := Finset.univ.map tokEmb

/-- The barriers' cells are none of the scoped ones. -/
theorem disjoint_cells : Disjoint barCells scCells := by
  rw [Finset.disjoint_left]
  rintro g h₁ h₂
  obtain ⟨c, -, rfl⟩ := Finset.mem_map.mp h₁
  obtain ⟨ck, -, h⟩ := Finset.mem_map.mp h₂
  have h' := congrArg Prod.snd h
  change (scKey ck).2 = .reg barS at h'
  rw [scKey_eq] at h'
  have : ∀ k : Fin 7, osem k ≠ .reg barS := by decide
  exact this ck.2 h'

/-- The tokens of the duties on a device's own cells. -/
def ownToks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 2) 0 0 ∗ dutyTok ER (recvCell c 1) 0 0 ∗ dutyTok ER (recvCell c 0) 0 0)
    ∗ (dutyTok ER (locCell c) 0 0 ∗ dutyTok ER (locCell c) 1 0 ∗ dutyTok ER (locCell c) 2 0 ∗ dutyTok ER (locCell c) 3 0))

/-- A conjunction over thirteen indices, written out. -/
theorem fin13_sep (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- All the tokens of the launch, dealt to the devices on whose cells the duties are. -/
theorem toks_own : bigSep allToks (fun x => (dutyTok ER x.1 x.2.1 x.2.2 : sProp 𝕄)) ⊢ bigSep Finset.univ fun c : Dev nD => ownToks c := by
  unfold allToks; rw [bigSep_map, bigSep_univ_prod]
  refine bigSep_mono fun c _ => ?_
  rw [fin13_sep]
  show iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 2) 0 0 ∗ dutyTok ER (recvCell c 1) 0 0 ∗ dutyTok ER (recvCell c 0) 0 0
    ∗ dutyTok ER (locCell c) 0 0 ∗ dutyTok ER (locCell c) 1 0 ∗ dutyTok ER (locCell c) 2 0 ∗ dutyTok ER (locCell c) 3 0) ⊢ (ownToks c : sProp 𝕄)
  unfold ownToks
  iintro ⟨a, b, d, e, f, g, h, i, j, k, l, n, o⟩
  isplitl [a b d]
  · isplitl [a]; · iexact a
    isplitl [b] <;> iassumption
  isplitl [e f g]
  · isplitl [e]; · iexact e
    isplitl [f] <;> iassumption
  isplitl [h i j]
  · isplitl [h]; · iexact h
    isplitl [i] <;> iassumption
  isplitl [k]; · iexact k
  isplitl [l]; · iexact l
  isplitl [n] <;> iassumption

/-- The devices shifted around. -/
def shE (a b : ℕ) (h : a + b = 4) : Dev nD ≃ Dev nD :=
  ⟨fun c => sh c a, fun c => sh c b, fun c => sh_back c a b h, fun c => sh_back c b a (by omega)⟩

/-- Every token handed to the device that pays the duty. -/
theorem toks_around : (bigSep Finset.univ fun c : Dev nD => (ownToks c : sProp 𝕄)) ⊢ bigSep Finset.univ fun c : Dev nD => pays c := by
  unfold ownToks pays
  simp only [bigSep_sep']
  rw [bigSep_univ_equiv (shE 1 3 rfl) (fun c : Dev nD => (dutyTok ER (barCell c) 0 0 : sProp 𝕄)),
    bigSep_univ_equiv (shE 2 2 rfl) (fun c : Dev nD => (dutyTok ER (barCell c) 0 1 : sProp 𝕄)),
    bigSep_univ_equiv (shE 3 1 rfl) (fun c : Dev nD => (dutyTok ER (barCell c) 0 2 : sProp 𝕄)),
    bigSep_univ_equiv (shE 1 3 rfl) (fun c : Dev nD => (dutyTok ER (recvCell c 2) 0 0 : sProp 𝕄)),
    bigSep_univ_equiv (shE 2 2 rfl) (fun c : Dev nD => (dutyTok ER (recvCell c 1) 0 0 : sProp 𝕄)),
    bigSep_univ_equiv (shE 3 1 rfl) (fun c : Dev nD => (dutyTok ER (recvCell c 0) 0 0 : sProp 𝕄))]
  exact BI.Entails.refl _

/-! ## The launch credit -/

/-- Two devices' barrier cells are equal only if the devices are. -/
theorem bar_iff (c d : Dev nD) : barCell c = barCell d ↔ c = d := ⟨fun h => barEmb.injective h, fun h => by rw [h]⟩
/-- Two receive cells are equal only if device and slot are. -/
theorem recv_iff (c d : Dev nD) (s s' : Fin 3) : recvCell c s = recvCell d s' ↔ c = d ∧ s = s' := by
  have hi : ∀ s s' : Fin 3, (SemLoc.dma (recvS s) : SemLoc sig) = .dma (recvS s') → s = s' := by decide
  exact ⟨fun h => ⟨by simpa using congrArg (fun g => g.1.1) h, hi s s' (congrArg Prod.snd h)⟩, fun h => by rw [h.1, h.2]⟩
/-- A barrier cell is not a receive cell. -/
theorem bar_ne_recv (c d : Dev nD) (s : Fin 3) : barCell c ≠ recvCell d s := fun h => by
  have := congrArg Prod.snd h
  exact absurd this (by simp)

/-- A debt at one cell, read at a cell. -/
theorem tally_at (g g' : GSem nD τ sig) (n : ℕ) : (tallyAt g () n : CellTallies nD τ sig Unit) g' () = if g' = g then n else 0 := by
  rw [tallyAt_apply]
  by_cases h : g' = g
  · rw [if_pos h, if_pos ⟨h, rfl⟩]
  · rw [if_neg h, if_neg fun h' => h h'.1]

/-- What a device owes at launch, read at a cell: three receive credits and three barrier units. -/
theorem owed_eq (d : Dev nD) (g : GSem nD τ sig) : O₀ d g () =
    (if g = recvCell (sh d 2) 1 then NS else 0) + (if g = recvCell (sh d 3) 0 then NS else 0) + (if g = recvCell (sh d 1) 2 then NS else 0)
      + (if g = barCell (sh d 3) then 1 else 0) + (if g = barCell (sh d 2) then 1 else 0) + (if g = barCell (sh d 1) then 1 else 0) := by
  rw [← tally_at, ← tally_at, ← tally_at, ← tally_at, ← tally_at, ← tally_at]
  unfold O₀ OC OB OA
  simp only [Pi.add_apply, Finsupp.add_apply, zero_add]

/-- Exactly one device has a given device `a` further on. -/
theorem sum_sh (c : Dev nD) (a b n : ℕ) (h : a + b = 4) : (∑ d : Dev nD, if c = sh d a then n else 0) = n := by
  rw [Finset.sum_eq_single (sh c b)]
  · exact if_pos (sh_back c b a (by omega)).symm
  · intro d _ hd
    exact if_neg fun e => hd (by rw [e, sh_back d a b h])
  · intro hd; exact absurd (Finset.mem_univ _) hd

/-- All devices together owe three units on each barrier. -/
theorem owed_bar (c : Dev nD) : (∑ d : Dev nD, O₀ d (barCell c) ()) = 3 := by
  simp only [owed_eq, bar_iff, bar_ne_recv, if_false, zero_add, Finset.sum_add_distrib]
  rw [sum_sh c 3 1 1 rfl, sum_sh c 2 2 1 rfl, sum_sh c 1 3 1 rfl]
/-- All devices together owe one copy's credit on each receive semaphore. -/
theorem owed_recv (c : Dev nD) (s : Fin 3) : (∑ d : Dev nD, O₀ d (recvCell c s) ()) = NS := by
  simp only [owed_eq, recv_iff, (bar_ne_recv _ _ _).symm, if_false, add_zero, Finset.sum_add_distrib]
  fin_cases s
  · have e : ∀ d, ((c = sh d 3 ∧ (0 : Fin 3) = 0) ↔ c = sh d 3) := fun d => ⟨fun h => h.1, fun h => ⟨h, rfl⟩⟩
    simpa using sum_sh c 3 1 NS rfl
  · simpa using sum_sh c 2 2 NS rfl
  · simpa using sum_sh c 1 3 NS rfl

/-- What the devices owe on a cell is the credit that the launch hands out for it. -/
theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The launch hands a device the credits for its barrier and its three receive semaphores. -/
theorem creds (c : Dev nD) : (Pipeline.launchCred O₀ c : sProp 𝕄) ⊢ credsOf c := by
  unfold Pipeline.launchCred credsOf
  rw [← launch_at (barCell c) 3 (owed_bar c), ← launch_at (recvCell c 0) NS (owed_recv c 0), ← launch_at (recvCell c 1) NS (owed_recv c 1),
    ← launch_at (recvCell c 2) NS (owed_recv c 2)]
  refine BIBase.Entails.trans (bigSep_subset (t := {.reg barS, .dma (recvS 0), .dma (recvS 1), .dma (recvS 2)}) (Finset.subset_univ _)) (Entails.of_eq ?_)
  rw [bigSep_insert (by decide), bigSep_insert (by decide), bigSep_insert (by decide), bigSep_singleton]
  rfl

/-! ## The launch -/

/-- The pipeline's semaphores on the four devices are all different. -/
theorem cells_inj : Function.Injective (Pipeline.PerCore.cellOf (nD := nD) (τ := τ) (pinD (pcfgs (F := F)) aT)) :=
  Pipeline.PerCore.cellOf_injective (pinD (pcfgs (F := F)) aT) (fun _ p => by fin_cases p; exact (by decide : Pipeline.SpecSemsDistinct spec0))
    (fun _ p p' h => absurd (Subsingleton.elim p p') h)

/-- The launch element: the pipeline's at its staging cells, the exchange's at its own. -/
def u₀ : UU :=
  (initOf (Pipeline.PerCore.cells (pinD (pcfgs (F := F)) aT) cells_inj) (Pipeline.PerCore.launchToks (pinD (pcfgs (F := F)) aT) cells_inj),
    launchOf barCells scCells allToks)

/-- The exchange's launch element, held by the first device. -/
def G (c : Dev nD) : sProp 𝕄 := if c = 0 then BI.own (ER (launchOf barCells scCells allToks)) else iprop(emp)
/-- The exchange's launch resource, held by device 0, is the devices' together. -/
theorem bigSep_G : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The barrier's is the only semaphore that is not scoped. -/
theorem unscoped_eq : ∀ sm : SemLoc sig, sm.isScoped .tc = false → sm = .reg barS := by decide
/-- The unscoped semaphores of a device are its barrier's, at zero. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (Gen.V0 m c) ∗ E0 m c)
abbrev Tₙ (c : Dev nD) : sProp 𝕄 := iprop(StableHlo.held (c : Thread nD τ) (Pipeline.ucRefs τ sig) (Vend m c) ∗ semVal (barCell c) 0)

/-- What a device holds at launch beside the exchange's records and tokens. -/
def bundle (c : Dev nD) : sProp 𝕄 :=
  iprop(StableHlo.held (c : Thread nD τ) (Pipeline.ucRefs τ sig) (Gen.V0 m c) ∗ credsOf c ∗ owes (c : Thread nD τ) (O₀ c) ∅)

/-- The records, a device's tokens and what it holds at launch are what its program starts from. -/
theorem T₀_intro (κ : GSem nD τ sig → ℕ) (c : Dev nD) : iprop(records (Xm m) κ ∗ (linear c ∗ bundle m c)) ⊢ T₀ m c := by
  unfold bundle T₀ E0
  iintro ⟨#HR, Hl, Hh, Hc, HO⟩
  isplitl [Hh]; · iexact Hh
  isplitl [Hl]
  · iexists κ
    isplitr; · iexact HR
    iexact Hl
  isplitl [Hc]; · iexact Hc
  unfold owesE
  iexists ∅; iexact HO

/-- What the launch deals each device makes the state its program starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (Gen.V0 m c) from Pipeline.unscopedBufs_held c (Gen.V0 m c),
      unscopedSems_eq]
    unfold bundle
    iintro ⟨Hh, Hus, HO, Hcr, -, HG⟩
    isplitl [Hh HO Hcr]
    · isplitl [Hh]; · iexact Hh
      isplitl [Hcr]; · iapply (creds (F := F) c); iexact Hcr
      iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => opens c) :=
    Entails.of_eq (by
      unfold scCells
      rw [bigSep_map, bigSep_univ_prod]
      exact bigSep_congr fun c _ => fin7_sep (fun k : Fin 7 => (openTok ER (scKey (c, k)) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  ihave Hu := (Entails.of_eq (bigSep_G (F := F))) $$ HG
  imod (Rounds.fund_launch ER (a2aRd (Xm m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (Xm m) κ) (Φ := fun c => iprop(linear c ∗ bundle m c)) fun c _ => T₀_intro m κ c)
  isplitr
  · unfold records
    isplitr; · iexact Hinv
    iexact Hr
  iapply Idealize.ShloMosaic.Smoke.bigSep_pair
  isplitr [HB]
  · unfold linear
    iapply Idealize.ShloMosaic.Smoke.bigSep_pair; isplitl [Hat]; · iapply hat $$ Hat
    iapply Idealize.ShloMosaic.Smoke.bigSep_pair; isplitl [Hopen]; · iapply hopen $$ Hopen
    iapply (toks_around (F := F))
    iapply (toks_own (F := F)) $$ Htok
  · iexact HB

/-! ## The run -/

/-- @main as segments. -/
abbrev segsM (c : Dev nD) : List (Pipeline.PerCore.Seg (pcfgs (F := F)) aT (pdM m) () (defs₀ (F := F)) 𝒱₀ L lv) :=
  [.host (Gen.seg0 m 𝒱₀ L lv (fun _ => E0 m) c), .host (Gen.seg1 m 𝒱₀ L lv (fun _ => E0 m)), .host (Gen.seg2 m 𝒱₀ L lv (fun _ => E0 m)), .region (reg m)]

/-- At the end a device's x is as it was. -/
theorem Vend_arg0 (c : Dev nD) : Vend m c main_arg0 = m ((c : Thread nD τ).loc main_arg0) :=
  (Vend_off m c (Proc.devRef .tc main_arg0) (by decide)).trans
    ((Gen.V3_of m c main_arg0 (by decide)).trans ((Gen.V2_of m c main_arg0 (by decide)).trans (Gen.V1_of m c main_arg0 (by decide))))
/-- At the end a device's w is as it was. -/
theorem Vend_arg1 (c : Dev nD) : Vend m c main_arg1 = m ((c : Thread nD τ).loc main_arg1) :=
  (Vend_off m c (Proc.devRef .tc main_arg1) (by decide)).trans
    ((Gen.V3_of m c main_arg1 (by decide)).trans ((Gen.V2_of m c main_arg1 (by decide)).trans (Gen.V1_of m c main_arg1 (by decide))))

set_option backward.isDefEq.respectTransparency.types false in
/-- From any memory with zero counters every weakly fair execution on the four devices ends, the result's buffer of every
    device holding what the pipeline leaves there, x and w unchanged, every counter at zero. -/
theorem run_main : θ_run (defs (F := F)) (onTc (τ := τ) (main (F := F))) ⟨m, fun _ => 0, ρ⟩
    (fun r => (∀ c : Dev nD, r.2.mem ((c : Thread nD τ).loc main_v11) = res m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.PerCore.θ_run_regions_kit_sems (pcfgs (F := F)) aT (pdM m) () cells_inj EP (defs₀ (F := F)) 𝒱₀ L lv m ρ main (segsM m)
    (fun c Q => by
      rewrite [Gen.main_chain c, Pipeline.PerCore.Seg.run_eq_chain,
        show (segsM m c).map Pipeline.PerCore.Seg.prog = [
          StableHlo.seq (Gen.hostOps0 c),
          StableHlo.seq Gen.hostOps0_1,
          StableHlo.seq Gen.hostOps0_2,
          Prog.lift (.customCall (Pipeline.entry 0) ()) ] from rfl]
      dsimp (config := { failIfUnchanged := false }) only
      exact .rfl)
    (fun c => by simp only [segsM, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := fun c => ⟨.rfl, .rfl, .rfl, .rfl, .rfl⟩)
    (hinit := init m ρ)
    (QY := fun c s => (s.mem ((c : Thread nD τ).loc main_v11) = res m c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨⟨(h (Proc.devRef .tc main_v11) (Finset.mem_filter.mpr ⟨StableHlo.devRef_mem_tcRefs main_v11, by decide⟩)).trans (Vend_v11 m c),
          (h (Proc.devRef .tc main_arg0) (Finset.mem_filter.mpr ⟨StableHlo.devRef_mem_tcRefs main_arg0, by decide⟩)).trans (Vend_arg0 m c),
          (h (Proc.devRef .tc main_arg1) (Finset.mem_filter.mpr ⟨StableHlo.devRef_mem_tcRefs main_arg1, by decide⟩)).trans (Vend_arg1 m c)⟩, by simpa using hb⟩
      iexact HSI)
    (hQ := fun s h hs => ⟨fun c => (h c).1, sem_eq_zero hs fun c sm hsm => by
        obtain rfl := unscoped_eq sm hsm
        exact (h c).2⟩)

end Cert.A2A
end
-- ==== Proof.Frames.lean ====
module

public import proofs.«01_k».proof.Defs
public import proofs.«01_k».proof.Proof.Gen.Kernel
public import proofs.«01_k».proof.Proof.Gen.ReferenceIdeal.Run
public import proofs.«01_k».proof.Proof.Same
public import proofs.«01_k».proof.Proof.Exec

@[expose] public section

noncomputable section

namespace Cert.A2A

open Idealize.ShloMosaic Idealize.SL.Sem

/-- What the frames keep of the run. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_main (F := F) m ρ)

/-- The kernel's frame, from the run that holds over any float values. -/
theorem frame_kernel : Cert.quiescent_Kernel := fun m ρ _ => to_kernel _ _ (kept (F := Bits) m ρ)

/-- The ideal kernel's frame. -/
theorem frame_ideal : Cert.quiescent_KernelIdeal := fun m ρ _ => kept (F := Ideal) m ρ

/-- The reference's frame: it has no semaphores. -/
theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.A2A
end
-- ==== Proof.Math.lean ====
module

public import proofs.«01_k».proof.Proof.Gen.KernelIdeal
public import Idealize.ShloMosaic.Lib.ValueIdx
public import Idealize.ShloMosaic.Lib.MatmulPlain
public import Idealize.ShloMosaic.Lib.IdealHost
public import Idealize.ShloMosaic.Lib.Pipeline.ValueKit.Acc

@[expose] public section

noncomputable section

namespace Cert.A2A

open Idealize.ShloMosaic Idealize.ShloMosaic.ValueIdx

/-- The product of x and w at a row and a column. -/
def prod (x : (⟨2, ![4096, 4096]⟩ : Shape).Idx → EReal) (w : (⟨2, ![4096, 8192]⟩ : Shape).Idx → EReal) (R : Fin 4096) (C : Fin 8192) : EReal :=
  ∑ k : Fin 4096, x (ix2 R k) * w (ix2 k C)

/-- The share of the product that comes from device `d`'s columns of x. -/
def share (x : (⟨2, ![4096, 4096]⟩ : Shape).Idx → EReal) (w : (⟨2, ![4096, 8192]⟩ : Shape).Idx → EReal) (R : Fin 4096) (C : Fin 8192) (d : Fin 4) : EReal :=
  ∑ k : Fin 1024, x (ix2 R ⟨d.val * 1024 + k.val, by omega⟩) * w (ix2 ⟨d.val * 1024 + k.val, by omega⟩ C)

/-- The product is the sum of the devices' shares. -/
theorem sum_share (x : (⟨2, ![4096, 4096]⟩ : Shape).Idx → EReal) (w : (⟨2, ![4096, 8192]⟩ : Shape).Idx → EReal) (R : Fin 4096) (C : Fin 8192) :
    ∑ d : Fin 4, share x w R C d = prod x w R C :=
  Fin.sum_mul_add_fin 4 1024 (fun k : Fin 4096 => x (ix2 R k) * w (ix2 k C)) rfl

/-- Four summands added in the order of the device's visits are the sum over the devices. -/
theorem visit_sum (f : Fin 4 → EReal) (c a b d : Fin 4) (ha : a.val = (c.val + 1) % 4) (hb : b.val = (c.val + 3) % 4) (hd : d.val = (c.val + 2) % 4) :
    ((f c + f a) + f b) + f d = ∑ e : Fin 4, f e := by
  rw [Fin.sum_univ_four]
  obtain rfl : a = ⟨(c.val + 1) % 4, Nat.mod_lt _ (by decide)⟩ := Fin.ext ha
  obtain rfl : b = ⟨(c.val + 3) % 4, Nat.mod_lt _ (by decide)⟩ := Fin.ext hb
  obtain rfl : d = ⟨(c.val + 2) % 4, Nat.mod_lt _ (by decide)⟩ := Fin.ext hd
  fin_cases c
  · show ((f 0 + f 1) + f 3) + f 2 = _
    abel
  · show ((f 1 + f 2) + f 0) + f 3 = _
    abel
  · show ((f 2 + f 3) + f 1) + f 0 = _
    abel
  · show ((f 3 + f 0) + f 2) + f 1 = _
    abel

/-- The sigmoid-weighted value as the reference writes it. -/
def silu (y : EReal) : EReal := Ideal.div y (1 + Ideal.exp (-y))

/-- The exponential of an extended real is not negative. -/
theorem exp_nonneg (y : EReal) : 0 ≤ Ideal.exp y := by
  induction y with
  | bot => exact le_refl _
  | top => exact le_top
  | coe r => exact EReal.coe_nonneg.mpr (Real.exp_pos r).le

/-- One plus an exponential is never zero. -/
theorem denom_ne (y : EReal) : 1 + Ideal.exp y ≠ 0 := by
  have h : (0 : EReal) < 1 + Ideal.exp y := lt_of_lt_of_le zero_lt_one (le_add_of_nonneg_right (exp_nonneg y))
  exact h.ne'

/-- A value times its sigmoid is that. -/
theorem mul_logistic (y : EReal) : y * Ideal.logistic y = silu y := by
  unfold Ideal.logistic silu Ideal.div
  rw [if_neg (denom_ne _), if_neg (denom_ne _), one_mul]

end Cert.A2A
end
-- ==== Proof.Value.lean ====
module

public import proofs.«01_k».proof.Proof.Launch
public import proofs.«01_k».proof.Proof.Math
public import Idealize.ShloMosaic.Lib.Pipeline.ValueKit.Geometry

@[expose] public section

noncomputable section

namespace Cert.A2A

open Idealize.ShloMosaic Idealize.ShloMosaic.TcCoe Idealize.ShloMosaic.ValueIdx
open Idealize.ShloMosaic.Pipeline (Dat Cfg)
open Cert.KernelIdeal

section AnyF

variable {F : FTy → Type} [FloatOps F]
variable (X : (c : Dev nD) → Buf (Elt F) ((c : Thread nD τ).loc main_arg0))
variable (W : (c : Dev nD) → Buf (Elt F) ((c : Thread nD τ).loc main_arg1))
variable (R : (c : Dev nD) → Buf (Elt F) ((c : Thread nD τ).loc main_v11))

/-! ## The result array, by blocks -/

/-- The block a written-back point writes. -/
theorem tr2 : ∀ t : Fin grid0.N, 24 ≤ t.val → cc0_transform_2 (grid0.coords t) = ![0, t.val % 8] := by decide +kernel

/-- The block of the result at a point is the printed one. -/
theorem index1 (c : Dev nD) (t : Fin grid0.N) : ((cfgT (F := F) c).win 1).index t = cc0_transform_2 (grid0.coords t) := rfl

/-- The result array, element by element: the block of its column, at its row and the column inside the block. -/
def outG (c : Dev nD) : Buf (Elt F) ((c : Thread nD τ).loc main_v11) := fun i : S1024x8192.Idx =>
  outV X (Bk W) c ((i 1).val / 1024) (ix2 (⟨(i 0).val, (i 0).isLt⟩ : Fin 1024) (⟨(i 1).val % 1024, Nat.mod_lt _ (by decide)⟩ : Fin 1024))

/-- An element of a block, read at its place in the result. -/
theorem outG_at (c : Dev nD) (i : S1024x8192.Idx) (j : ℕ) (y : S1024x1024.Idx) (h0 : (i 0).val = (y 0).val) (h1 : (i 1).val = j * 1024 + (y 1).val) :
    outV X (Bk W) c j y = outG X W c i := by
  have hy : (y 1).val < 1024 := (y 1).isLt
  have e1 : (i 1).val / 1024 = j := by omega
  have e2 : (i 1).val % 1024 = (y 1).val := by omega
  show _ = outV X (Bk W) c ((i 1).val / 1024) _
  rw [e1]
  congr 1
  refine (eq_ix2 y).trans ?_
  congr 1
  · exact Fin.ext h0.symm
  · exact Fin.ext e2.symm

/-- What a point of the last phase leaves is its block of the result. -/
theorem arr_point (c : Dev nD) (t : Fin grid0.N) (ht : 24 ≤ t.val) (y : S1024x1024.Idx) (i : S1024x8192.Idx)
    (h : ∀ a : Fin 2, (i a).val = ((cfgT (F := F) c).win 1).index t a * S1024x1024.size a + (y a).val) :
    outV X (Bk W) c (t.val % 8) y = outG X W c i := by
  have hi := (index1 (F := F) c t).trans (tr2 t ht)
  refine outG_at X W c i (t.val % 8) y ?_ ?_
  · have := h 0
    rw [hi] at this
    refine this.trans ?_
    show 0 * 1024 + (y 0).val = (y 0).val
    omega
  · have := h 1
    rw [hi] at this
    exact this

/-- Every element of the result is written back at some point of the last phase. -/
theorem arr_cover (c : Dev nD) (i : S1024x8192.Idx) :
    ∃ t : Fin grid0.N, ((cfgT (F := F) c).win 1).flush t = true ∧ i ∈ (((cfgT (F := F) c).win 1).blk t).view.set := by
  have h0 : (i 0).val < 1024 := (i 0).isLt
  have h1 : (i 1).val < 8192 := (i 1).isLt
  have hlt : 24 + (i 1).val / 1024 < grid0.N := by rw [Gen.N_0]; omega
  have hm : (24 + (i 1).val / 1024) % 8 = (i 1).val / 1024 := by omega
  have hi : ((cfgT (F := F) c).win 1).index ⟨24 + (i 1).val / 1024, hlt⟩ = ![0, (i 1).val / 1024] := by
    refine ((index1 (F := F) c _).trans (tr2 _ (Nat.le_add_right _ _))).trans ?_
    show ![0, (24 + (i 1).val / 1024) % 8] = _
    rw [hm]
  refine ⟨⟨24 + (i 1).val / 1024, hlt⟩, (flush1 (F := F) c _).trans (decide_eq_true (Nat.le_add_right _ _)), ?_⟩
  refine (((cfgT (F := F) c).win 1).emb_mem_blk_iff _ i rfl).mpr fun a => ?_
  rw [hi]
  fin_cases a
  · show 0 * 1024 ≤ (i 0).val ∧ (i 0).val < 0 * 1024 + 1024
    omega
  · show (i 1).val / 1024 * 1024 ≤ (i 1).val ∧ (i 1).val < (i 1).val / 1024 * 1024 + 1024
    omega

/-- The kernel leaves that in the result array. -/
theorem arr_eq (c : Dev nD) : (datT X W R c).arrAt 1 grid0.N = outG X W c :=
  (datT X W R c).arrAt_eq_of_emb 1 (outG X W c)
    (fun t hf y => arr_point X W c t (of_decide_eq_true ((flush1 (F := F) c t).symm.trans hf)) (((cfgT (F := F) c).win 1).xinj (grid0.coords t) y) _
      (fun a => Pipeline.Window.rect_emb_val ((cfgT (F := F) c).win 1) t y a))
    (fun i => arr_cover c i)

/-! ## The blocks read -/

/-- An element of a row block of x, read at its place in x. -/
theorem xrow_at (c : Dev nD) (d : ℕ) (y : S1024x1024.Idx) (i : S4096x1024.Idx) (h0 : (i 0).val = 1024 * (sh c d).val + (y 0).val) (h1 : (i 1).val = (y 1).val) :
    xrow X c d y = X c i := by
  have e : (xs c d).view.emb y = i := by
    funext a
    apply Fin.ext
    fin_cases a
    · show 1024 * (sh c d).val + 1 * (y 0).val = (i 0).val
      omega
    · show 0 + 1 * (y 1).val = (i 1).val
      omega
  show X c ((xs c d).view.emb y) = X c i
  rw [e]

/-- An element of a block of w, read at its place in w. -/
theorem Bk_at (c : Dev nD) (p j : ℕ) (hp : p < 4) (hj : j < 8) (y : S1024x1024.Idx) (i : S4096x8192.Idx)
    (h0 : (i 0).val = srcVal c.val p * 1024 + (y 0).val) (h1 : (i 1).val = j * 1024 + (y 1).val) :
    Bk W c p j y = W c i := by
  have hv : (tOf p j).val = 8 * p + j := by show (8 * p + j) % 32 = _; omega
  have hi : ((cfgT (F := F) c).win 0).index (tOf p j) = ![srcVal c.val p, j] := by
    refine (tr1 (F := F) c (grid0.coords (tOf p j))).trans ?_
    rw [(coords_val _).1, (coords_val _).2, hv, (by omega : (8 * p + j) / 8 = p), (by omega : (8 * p + j) % 8 = j)]
  have e : (((cfgT (F := F) c).win 0).blk (tOf p j)).view.emb y = i := by
    funext a
    apply Fin.ext
    refine (Pipeline.Window.rect_emb_val ((cfgT (F := F) c).win 0) (tOf p j) y a).trans ?_
    rw [hi]
    fin_cases a
    · exact h0.symm
    · exact h1.symm
  show W c ((((cfgT (F := F) c).win 0).blk (tOf p j)).view.emb y) = W c i
  rw [e]

end AnyF

/-! ## The values over the extended reals -/

section Reals

variable (X : (c : Dev nD) → Buf (Elt Ideal) ((c : Thread nD τ).loc main_arg0))
variable (W : (c : Dev nD) → Buf (Elt Ideal) ((c : Thread nD τ).loc main_arg1))

/-- A phase's product at a row and a column is the sum over the block's columns. -/
theorem pay7_at (a b : Vec Ideal S1024x1024 .f32) (r l : Fin 1024) :
    Gen.k0_pay7 (F := Ideal) a b (ix2 r l) = (∑ k : Fin 1024, a (ix2 r k) * b (ix2 k l) : EReal) := by
  unfold Gen.k0_pay7
  rw [shapeCast_self]
  refine (Ideal.matmul_plain_apply none a b (constant S1024x1024 .f32 0x00000000#32) r l).trans ?_
  rw [constant_apply, Ideal.ofBits_zero_f32, zero_add]

/-- What phase 0 stores is its product. -/
theorem pay8_at (a b : Vec Ideal S1024x1024 .f32) : Gen.k0_pay8 (F := Ideal) a b = Gen.k0_pay7 a b := by
  unfold Gen.k0_pay8
  exact shapeCast_self _ _

/-- What phases 1 and 2 store is the sum of what was there and the product. -/
theorem pay1_at (a b : Vec Ideal S1024x1024 .f32) (y : S1024x1024.Idx) : Gen.k0_pay1 (F := Ideal) a b y = (b y + a y : EReal) := by
  unfold Gen.k0_pay1
  rw [shapeCast_self]
  rfl

/-- What the last phase writes is the sigmoid-weighted sum. -/
theorem pay2_at (a b : Vec Ideal S1024x1024 .f32) (y : S1024x1024.Idx) : Gen.k0_pay2 (F := Ideal) a b y = silu (b y + a y : EReal) := by
  refine Eq.trans ?_ (mul_logistic _)
  unfold Gen.k0_pay2
  rfl

/-- Over the extended reals a block that is rounded, sent and widened again is the block. -/
theorem pay63 (v : Vec Ideal S1024x1024 .f32) : Gen.k0_pay6 (F := Ideal) (Gen.k0_pay3 v) = v := by
  unfold Gen.k0_pay6 Gen.k0_pay3
  dsimp only
  rw [shapeCast_self, shapeCast_shapeCast]
  rfl

/-- The device whose columns of x a phase multiplies. -/
def srcDev (c : Dev nD) (p : ℕ) : Fin 4 := ⟨srcVal c.val p, Nat.mod_lt _ (by decide)⟩

/-- The visits after the first go to the devices one, three and two further on. -/
theorem srcDev_visits : ∀ c : Dev nD, (srcDev c 1).val = ((srcDev c 0).val + 1) % 4 ∧ (srcDev c 2).val = ((srcDev c 0).val + 3) % 4
    ∧ (srcDev c 3).val = ((srcDev c 0).val + 2) % 4 := by decide

/-- The left operand of a phase is the device's rows of the source device's columns of x. -/
theorem chunk_at (c : Dev nD) (p : Fin 4) (y : S1024x1024.Idx) (i : S4096x1024.Idx) (h0 : (i 0).val = 1024 * c.val + (y 0).val) (h1 : (i 1).val = (y 1).val) :
    chunkV X c p.val y = X (srcDev c p.val) i := by
  have hs : ∀ c : Dev nD, sh c 0 = srcDev c 0 ∧ sh c 1 = srcDev c 1 ∧ sh c 3 = srcDev c 2 ∧ sh c 2 = srcDev c 3 := by decide
  have hb : ∀ c : Dev nD, sh c 0 = c ∧ sh (sh c 1) 3 = c ∧ sh (sh c 3) 1 = c ∧ sh (sh c 2) 2 = c := by decide
  obtain ⟨s0, s1, s2, s3⟩ := hs c
  obtain ⟨b0, b1, b2, b3⟩ := hb c
  have go : ∀ (d : Dev nD) (e : ℕ), sh d e = c → xrow X d e y = X d i := fun d e he => xrow_at X d e y i (by rw [he]; exact h0) h1
  fin_cases p
  · show xrow X c 0 y = X (srcDev c 0) i
    rw [← s0, go c 0 b0, b0]
  · show Gen.k0_pay6 (Gen.k0_pay3 (xrow X (sh c 1) 3)) y = X (srcDev c 1) i
    rw [pay63, ← s1, go (sh c 1) 3 b1]
  · show Gen.k0_pay6 (Gen.k0_pay3 (xrow X (sh c 3) 1)) y = X (srcDev c 2) i
    rw [pay63, ← s2, go (sh c 3) 1 b2]
  · show Gen.k0_pay6 (Gen.k0_pay3 (xrow X (sh c 2) 2)) y = X (srcDev c 3) i
    rw [pay63, ← s3, go (sh c 2) 2 b3]

variable (x : (⟨2, ![4096, 4096]⟩ : Shape).Idx → EReal) (w : (⟨2, ![4096, 8192]⟩ : Shape).Idx → EReal)
variable (hX : ∀ (d : Fin 4) (i : S4096x1024.Idx) (k : Fin 4096), k.val = d.val * 1024 + (i 1).val → X d i = x (ix2 (⟨(i 0).val, (i 0).isLt⟩ : Fin 4096) k))
variable (hW : ∀ (c : Dev nD) (i : S4096x8192.Idx), W c i = w i)

include hX hW

/-- What a phase multiplies is the source device's share of the product. -/
theorem phase_at (c : Dev nD) (p : Fin 4) (j : Fin 8) (r l : Fin 1024) (Rr : Fin 4096) (C : Fin 8192) (hR : Rr.val = 1024 * c.val + r.val) (hC : C.val = j.val * 1024 + l.val) :
    Gen.k0_pay7 (F := Ideal) (chunkV X c p.val) (Bk W c p.val j.val) (ix2 r l) = share x w Rr C (srcDev c p.val) := by
  refine (pay7_at _ _ r l).trans ?_
  unfold share
  refine Finset.sum_congr rfl fun k _ => ?_
  have hk : k.val < 1024 := k.isLt
  have hd : (srcDev c p.val).val < 4 := (srcDev c p.val).isLt
  have e1 : chunkV X c p.val (ix2 r k) = x (ix2 Rr ⟨(srcDev c p.val).val * 1024 + k.val, by omega⟩) :=
    (chunk_at X c p (ix2 r k) (ix2 Rr k) hR rfl).trans (hX (srcDev c p.val) (ix2 Rr k) _ rfl)
  have e2 : Bk W c p.val j.val (ix2 k l) = w (ix2 ⟨(srcDev c p.val).val * 1024 + k.val, by omega⟩ C) :=
    (Bk_at W c p.val j.val p.isLt j.isLt (ix2 k l) (ix2 ⟨(srcDev c p.val).val * 1024 + k.val, by omega⟩ C) rfl hC).trans (hW c _)
  rw [e1, e2]

/-- A block of the result holds the sigmoid-weighted product. -/
theorem out_at (c : Dev nD) (j : Fin 8) (r l : Fin 1024) (Rr : Fin 4096) (C : Fin 8192) (hR : Rr.val = 1024 * c.val + r.val) (hC : C.val = j.val * 1024 + l.val) :
    outV X (Bk W) c j.val (ix2 r l) = silu (prod x w Rr C) := by
  have ph := fun p : Fin 4 => phase_at X W x w hX hW c p j r l Rr C hR hC
  unfold outV
  refine (pay2_at _ _ _).trans (congrArg silu ?_)
  rw [← sum_share x w Rr C, ← visit_sum (share x w Rr C) (srcDev c 0) (srcDev c 1) (srcDev c 2) (srcDev c 3)
    (srcDev_visits c).1 (srcDev_visits c).2.1 (srcDev_visits c).2.2]
  refine congrArg₂ (fun a b : EReal => a + b) ?_ (ph 3)
  unfold partV
  refine (pay1_at _ _ _).trans (congrArg₂ (fun a b : EReal => a + b) ?_ (ph 2))
  unfold partV
  refine (pay1_at _ _ _).trans (congrArg₂ (fun a b : EReal => a + b) ?_ (ph 1))
  unfold partV
  rw [pay8_at]
  exact ph 0

/-- The result array of a device holds its rows of the sigmoid-weighted product. -/
theorem outG_val (c : Dev nD) (i : S1024x8192.Idx) (Rr : Fin 4096) (C : Fin 8192) (hR : Rr.val = 1024 * c.val + (i 0).val) (hC : C.val = (i 1).val) :
    outG X W c i = silu (prod x w Rr C) := by
  have h1 : (i 1).val < 8192 := (i 1).isLt
  exact out_at X W x w hX hW c ⟨(i 1).val / 1024, by omega⟩ _ _ Rr C hR (by rw [hC]; show (i 1).val = (i 1).val / 1024 * 1024 + (i 1).val % 1024; omega)

end Reals

end Cert.A2A
end
-- ==== Proof.Match.lean ====
module

public import proofs.«01_k».proof.Proof.Frames
public import proofs.«01_k».proof.Proof.Value
public import Idealize.ShloMosaic.Lib.StackMember
public import Idealize.ShloMosaic.Lib.Layout

@[expose] public section

noncomputable section

namespace Cert.A2A

open Idealize.ShloMosaic Idealize.SL.Sem Idealize.ShloMosaic.ValueIdx Idealize.ShloMosaic.TcCoe

/-- The reference's product of its two arrays. -/
def dotV (x : Vec Ideal Cert.ReferenceIdeal.S4096x4096 .f32) (w : Vec Ideal Cert.ReferenceIdeal.S4096x8192 .f32) : FVec Ideal Cert.ReferenceIdeal.S4096x8192 .f32 :=
  Host.dotGeneral (φ₁ := .f32) (φ₂ := .f32) Cert.ReferenceIdeal.dot_S4096x4096_S4096x8192_S4096x8192_1_0_0_1_n_n none x w

/-- The reference's result, as a function of its two arrays. -/
def refV (x : Vec Ideal Cert.ReferenceIdeal.S4096x4096 .f32) (w : Vec Ideal Cert.ReferenceIdeal.S4096x8192 .f32) : Vec Ideal Cert.ReferenceIdeal.S4096x8192 .bf16 :=
  truncf .bf16 (Host.divf (dotV x w)
    (addf (broadcastInDim Cert.ReferenceIdeal.S4096x8192 ![] Cert.ReferenceIdeal.Gen.bcast_S_S4096x8192 (constant Cert.ReferenceIdeal.S_ .f32 0x3F800000#32))
      (Host.exp (Host.negf (dotV x w))))) Cert.ReferenceIdeal.Gen.bitsLt_bf16_f32

/-- The reference's result at a row and a column is the sigmoid-weighted product. -/
theorem refV_at (x : Vec Ideal Cert.ReferenceIdeal.S4096x4096 .f32) (w : Vec Ideal Cert.ReferenceIdeal.S4096x8192 .f32) (r : Fin 4096) (l : Fin 8192) :
    refV x w (ix2 r l) = silu (prod x w r l) := by
  have hd : dotV x w (ix2 r l) = prod x w r l := StackMember.dotGeneral_plain_apply (φ₁ := .f32) (φ₂ := .f32) none x w r l
  rw [← hd]
  unfold silu
  rw [← Ideal.ofBits_one_f32]
  rfl

/-- A device's result is its rows of the reference's result. -/
theorem res_eq (m : (ℓ : Loc Cert.KernelIdeal.nD Cert.KernelIdeal.τ Cert.KernelIdeal.sig) → Buf (Elt Ideal) ℓ)
    (x : Vec Ideal Cert.ReferenceIdeal.S4096x4096 .f32) (w : Vec Ideal Cert.ReferenceIdeal.S4096x8192 .f32)
    (hx : ∀ c : Dev Cert.KernelIdeal.nD, m ((c.tc : Thread Cert.KernelIdeal.nD Cert.KernelIdeal.τ).loc Cert.KernelIdeal.main_arg0) = Layout.block ⟨2, ![4096, 1024]⟩ ⟨2, ![4096, 4096]⟩ 1 4 c x)
    (hw : ∀ c : Dev Cert.KernelIdeal.nD, m ((c.tc : Thread Cert.KernelIdeal.nD Cert.KernelIdeal.τ).loc Cert.KernelIdeal.main_arg1) = w)
    (c : Dev Cert.KernelIdeal.nD) :
    res m c = Layout.block ⟨2, ![1024, 8192]⟩ ⟨2, ![4096, 8192]⟩ 0 4 c (refV x w) := by
  have hX : ∀ (d : Fin 4) (i : Cert.KernelIdeal.S4096x1024.Idx) (k : Fin 4096), k.val = d.val * 1024 + (i 1).val →
      Xm m d i = x (ix2 (⟨(i 0).val, (i 0).isLt⟩ : Fin 4096) k) := fun d i k hk => by
    have e : Xm m d = Layout.block ⟨2, ![4096, 1024]⟩ ⟨2, ![4096, 4096]⟩ 1 4 d x :=
      ((Cert.KernelIdeal.Gen.V3_of m d Cert.KernelIdeal.main_arg0 (by decide)).trans ((Cert.KernelIdeal.Gen.V2_of m d Cert.KernelIdeal.main_arg0 (by decide)).trans
        (Cert.KernelIdeal.Gen.V1_of m d Cert.KernelIdeal.main_arg0 (by decide)))).trans (hx d)
    rw [e]
    refine congrArg x ((eq_ix2 _).trans ?_)
    congr 1
    exact Fin.ext hk.symm
  have hW : ∀ (d : Dev Cert.KernelIdeal.nD) (i : Cert.KernelIdeal.S4096x8192.Idx), Wm m d i = w i := fun d i => by
    have e : Wm m d = w :=
      ((Cert.KernelIdeal.Gen.V3_of m d Cert.KernelIdeal.main_arg1 (by decide)).trans ((Cert.KernelIdeal.Gen.V2_of m d Cert.KernelIdeal.main_arg1 (by decide)).trans
        (Cert.KernelIdeal.Gen.V1_of m d Cert.KernelIdeal.main_arg1 (by decide)))).trans (hw d)
    rw [e]
  refine (arr_eq (Xm m) (Wm m) (Rm m) c).trans (funext fun i => ?_)
  have h0 : (i 0).val < 1024 := (i 0).isLt
  have h1 : (i 1).val < 8192 := (i 1).isLt
  have hc : c.val < 4 := c.isLt
  have hr : c.val * 1024 + (i 0).val < 4096 := by omega
  refine (outG_val (Xm m) (Wm m) x w hX hW c i ⟨c.val * 1024 + (i 0).val, hr⟩ ⟨(i 1).val, h1⟩ (by show c.val * 1024 + (i 0).val = _; omega) rfl).trans ?_
  refine (refV_at x w _ _).symm.trans ?_
  rw [Layout.block_apply]
  refine congrArg (refV x w) (Eq.symm ((eq_ix2 _).trans ?_))
  congr 1

/-- The kernel's four devices together compute the reference's array, each its block of rows. -/
theorem algebraic : Cert.algebraic_KernelIdeal_ReferenceIdeal := fun m g m' g' _ hm =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c).1).trans (res_eq m _ _ (fun c => (hm c).1) (fun c => (hm c).2) c), (h.1 c).2⟩) (run_main (F := Ideal) m g),
    (θ_run Cert.ReferenceIdeal.defs _ _).mono (fun _ h => h 0) (Cert.ReferenceIdeal.Value.run (F := Ideal) m' g')⟩

end Cert.A2A
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Match
public import Idealize.ShloMosaic.Adequacy
public import Idealize.ShloMosaic.Init

@[expose] public section

noncomputable section

namespace Cert.Proof

open Idealize.ShloMosaic Idealize.SL.Sem Cert.Kernel

/-- The five claims: the three frames, the ideal kernel's text, and the equality of kernel and reference over the
    extended reals. -/
theorem claim : Cert.Claim := ⟨Cert.Kernel.Gen.facts, Cert.KernelIdeal.Gen.facts, Cert.ReferenceIdeal.Gen.facts,
  Cert.A2A.frame_kernel, Cert.A2A.frame_ideal, Cert.A2A.frame_ref, trivial, Cert.A2A.algebraic⟩

end Cert.Proof

end
